-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v516) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x128x128 : Shape := ⟨4, ![4, 96, 128, 128]⟩
abbrev S4x192x64x64 : Shape := ⟨4, ![4, 192, 64, 64]⟩
abbrev S4x384x32x32 : Shape := ⟨4, ![4, 384, 32, 32]⟩
abbrev S4x768x16x16 : Shape := ⟨4, ![4, 768, 16, 16]⟩
abbrev S128x64 : Shape := ⟨2, ![128, 64]⟩
abbrev S4x96x64x64 : Shape := ⟨4, ![4, 96, 64, 64]⟩
abbrev S1x96x128x128 : Shape := ⟨4, ![1, 96, 128, 128]⟩
abbrev S1x96x64x64 : Shape := ⟨4, ![1, 96, 64, 64]⟩
abbrev S1x96x64x128 : Shape := ⟨4, ![1, 96, 64, 128]⟩
abbrev S96x64x128 : Shape := ⟨3, ![96, 64, 128]⟩
abbrev S6144x128 : Shape := ⟨2, ![6144, 128]⟩
abbrev S6144x64 : Shape := ⟨2, ![6144, 64]⟩
abbrev S96x64x64 : Shape := ⟨3, ![96, 64, 64]⟩
abbrev S4x64x64x96 : Shape := ⟨4, ![4, 64, 64, 96]⟩
abbrev S4x64x64x192 : Shape := ⟨4, ![4, 64, 64, 192]⟩
abbrev S4x32x32x384 : Shape := ⟨4, ![4, 32, 32, 384]⟩
abbrev S4x16x16x768 : Shape := ⟨4, ![4, 16, 16, 768]⟩
abbrev S4x64x64x1440 : Shape := ⟨4, ![4, 64, 64, 1440]⟩
abbrev S1x16x64x96 : Shape := ⟨4, ![1, 16, 64, 96]⟩
abbrev S1x16x64x192 : Shape := ⟨4, ![1, 16, 64, 192]⟩
abbrev S1x32x32x384 : Shape := ⟨4, ![1, 32, 32, 384]⟩
abbrev S1x16x16x768 : Shape := ⟨4, ![1, 16, 16, 768]⟩
abbrev S1x16x64x1440 : Shape := ⟨4, ![1, 16, 64, 1440]⟩
abbrev S16x64x128 : Shape := ⟨3, ![16, 64, 128]⟩
abbrev S1x8x32x384 : Shape := ⟨4, ![1, 8, 32, 384]⟩
abbrev S8x32x384 : Shape := ⟨3, ![8, 32, 384]⟩
abbrev S1x32x384 : Shape := ⟨3, ![1, 32, 384]⟩
abbrev S7x32x384 : Shape := ⟨3, ![7, 32, 384]⟩
abbrev S8x32x128 : Shape := ⟨3, ![8, 32, 128]⟩
abbrev S8x1x128 : Shape := ⟨3, ![8, 1, 128]⟩
abbrev S8x31x128 : Shape := ⟨3, ![8, 31, 128]⟩
abbrev S1x16x64x128 : Shape := ⟨4, ![1, 16, 64, 128]⟩
abbrev S1x4x16x768 : Shape := ⟨4, ![1, 4, 16, 768]⟩
abbrev S4x16x768 : Shape := ⟨3, ![4, 16, 768]⟩
abbrev S1x16x768 : Shape := ⟨3, ![1, 16, 768]⟩
abbrev S3x16x768 : Shape := ⟨3, ![3, 16, 768]⟩
abbrev S4x16x128 : Shape := ⟨3, ![4, 16, 128]⟩
abbrev S4x1x128 : Shape := ⟨3, ![4, 1, 128]⟩
abbrev S4x15x128 : Shape := ⟨3, ![4, 15, 128]⟩
abbrev S4x1440x64x64 : Shape := ⟨4, ![4, 1440, 64, 64]⟩

abbrev nBuf : Space → Nat
  | .hbm => 12
  | .vmem => 16
  | .smem => 0
  | _ => 0

abbrev bufTy : (tb : Table) → Fin (tcTables nBuf tb) → BufTy
  | .hbm, ⟨0, _⟩ => ⟨S4x96x128x128, .f32⟩
  | .hbm, ⟨1, _⟩ => ⟨S4x192x64x64, .f32⟩
  | .hbm, ⟨2, _⟩ => ⟨S4x384x32x32, .f32⟩
  | .hbm, ⟨3, _⟩ => ⟨S4x768x16x16, .f32⟩
  | .hbm, ⟨4, _⟩ => ⟨S128x64, .f32⟩
  | .hbm, ⟨5, _⟩ => ⟨S4x96x64x64, .f32⟩
  | .hbm, ⟨6, _⟩ => ⟨S4x64x64x96, .f32⟩
  | .hbm, ⟨7, _⟩ => ⟨S4x64x64x192, .f32⟩
  | .hbm, ⟨8, _⟩ => ⟨S4x32x32x384, .f32⟩
  | .hbm, ⟨9, _⟩ => ⟨S4x16x16x768, .f32⟩
  | .hbm, ⟨10, _⟩ => ⟨S4x64x64x1440, .f32⟩
  | .hbm, ⟨11, _⟩ => ⟨S4x1440x64x64, .f32⟩
  | .local _ .vmem, ⟨0, _⟩ => ⟨S1x96x128x128, .f32⟩
  | .local _ .vmem, ⟨1, _⟩ => ⟨S1x96x128x128, .f32⟩
  | .local _ .vmem, ⟨2, _⟩ => ⟨S128x64, .f32⟩
  | .local _ .vmem, ⟨3, _⟩ => ⟨S1x96x64x64, .f32⟩
  | .local _ .vmem, ⟨4, _⟩ => ⟨S1x96x64x64, .f32⟩
  | .local _ .vmem, ⟨5, _⟩ => ⟨S1x16x64x96, .f32⟩
  | .local _ .vmem, ⟨6, _⟩ => ⟨S1x16x64x96, .f32⟩
  | .local _ .vmem, ⟨7, _⟩ => ⟨S1x16x64x192, .f32⟩
  | .local _ .vmem, ⟨8, _⟩ => ⟨S1x16x64x192, .f32⟩
  | .local _ .vmem, ⟨9, _⟩ => ⟨S1x32x32x384, .f32⟩
  | .local _ .vmem, ⟨10, _⟩ => ⟨S1x32x32x384, .f32⟩
  | .local _ .vmem, ⟨11, _⟩ => ⟨S1x16x16x768, .f32⟩
  | .local _ .vmem, ⟨12, _⟩ => ⟨S1x16x16x768, .f32⟩
  | .local _ .vmem, ⟨13, _⟩ => ⟨S1x16x64x1440, .f32⟩
  | .local _ .vmem, ⟨14, _⟩ => ⟨S1x16x64x1440, .f32⟩
  | .local _ .vmem, ⟨15, _⟩ => ⟨S16x64x128, .f32⟩
  | _, _ => ⟨S4x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x96x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x96x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x64x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x64x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x32x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x16x16x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x16x64x1440 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4x96x128x128 : Shape := ⟨4, ![4, 96, 128, 128]⟩
abbrev S4x192x64x64 : Shape := ⟨4, ![4, 192, 64, 64]⟩
abbrev S4x384x32x32 : Shape := ⟨4, ![4, 384, 32, 32]⟩
abbrev S4x768x16x16 : Shape := ⟨4, ![4, 768, 16, 16]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S64x64x2 : Shape := ⟨3, ![64, 64, 2]⟩
abbrev S4x96x64x64 : Shape := ⟨4, ![4, 96, 64, 64]⟩
abbrev S1x1x1x64 : Shape := ⟨4, ![1, 1, 1, 64]⟩
abbrev S1x1x64x1 : Shape := ⟨4, ![1, 1, 64, 1]⟩
abbrev S4x384x64x64 : Shape := ⟨4, ![4, 384, 64, 64]⟩
abbrev S4x768x64x64 : Shape := ⟨4, ![4, 768, 64, 64]⟩
abbrev S4x1440x64x64 : Shape := ⟨4, ![4, 1440, 64, 64]⟩

abbrev nBuf : Space → Nat
  | .hbm => 749
  | .vmem => 0
  | .smem => 0
  | _ => 0

abbrev hbmTy0_0 (i : Nat) : BufTy := match i % 128 with
  | 0 => ⟨S4x96x128x128, .f32⟩
  | 1 => ⟨S4x192x64x64, .f32⟩
  | 2 => ⟨S4x384x32x32, .f32⟩
  | 3 => ⟨S4x768x16x16, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S64, .f32⟩
  | 32 => ⟨S64, .f32⟩
  | 33 => ⟨S64x1, .f32⟩
  | 34 => ⟨S64, .f32⟩
  | 35 => ⟨S1x64, .f32⟩
  | 36 => ⟨S64, .i32⟩
  | 37 => ⟨S_, .i32⟩
  | 38 => ⟨S_, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S_, .i32⟩
  | 49 => ⟨S_, .i32⟩
  | 50 => ⟨S_, .i32⟩
  | 51 => ⟨S64, .i32⟩
  | 52 => ⟨S64, .i32⟩
  | 53 => ⟨S_, .i32⟩
  | 54 => ⟨S64, .i32⟩
  | 55 => ⟨S64, .i32⟩
  | 56 => ⟨S64, .i32⟩
  | 57 => ⟨S_, .i32⟩
  | 58 => ⟨S_, .i32⟩
  | 59 => ⟨S_, .i32⟩
  | 60 => ⟨S64, .i32⟩
  | 61 => ⟨S64, .i32⟩
  | 62 => ⟨S_, .i32⟩
  | 63 => ⟨S64, .i32⟩
  | 64 => ⟨S64, .i32⟩
  | 65 => ⟨S_, .i32⟩
  | 66 => ⟨S64, .i32⟩
  | 67 => ⟨S64, .i32⟩
  | 68 => ⟨S_, .i32⟩
  | 69 => ⟨S_, .i32⟩
  | 70 => ⟨S_, .i32⟩
  | 71 => ⟨S64, .i32⟩
  | 72 => ⟨S64, .i32⟩
  | 73 => ⟨S_, .i32⟩
  | 74 => ⟨S64, .i32⟩
  | 75 => ⟨S64, .i32⟩
  | 76 => ⟨S64x1, .i32⟩
  | 77 => ⟨S64x1, .i32⟩
  | 78 => ⟨S1x64, .i32⟩
  | 79 => ⟨S1x64, .i32⟩
  | 80 => ⟨S_, .i32⟩
  | 81 => ⟨S64x1, .i32⟩
  | 82 => ⟨S64x1, .i1⟩
  | 83 => ⟨S_, .i32⟩
  | 84 => ⟨S64x1, .i32⟩
  | 85 => ⟨S64x1, .i32⟩
  | 86 => ⟨S64x1, .i32⟩
  | 87 => ⟨S_, .i32⟩
  | 88 => ⟨S1x64, .i32⟩
  | 89 => ⟨S1x64, .i1⟩
  | 90 => ⟨S_, .i32⟩
  | 91 => ⟨S1x64, .i32⟩
  | 92 => ⟨S1x64, .i32⟩
  | 93 => ⟨S1x64, .i32⟩
  | 94 => ⟨S64x64, .i32⟩
  | 95 => ⟨S64x64, .i32⟩
  | 96 => ⟨S64x64x1, .i32⟩
  | 97 => ⟨S64x64x1, .i32⟩
  | 98 => ⟨S64x64x2, .i32⟩
  | 99 => ⟨S4x96x64x64, .f32⟩
  | 100 => ⟨S_, .i32⟩
  | 101 => ⟨S64x1, .i32⟩
  | 102 => ⟨S64x1, .i1⟩
  | 103 => ⟨S_, .i32⟩
  | 104 => ⟨S64x1, .i32⟩
  | 105 => ⟨S64x1, .i32⟩
  | 106 => ⟨S64x1, .i32⟩
  | 107 => ⟨S_, .i32⟩
  | 108 => ⟨S1x64, .i32⟩
  | 109 => ⟨S1x64, .i1⟩
  | 110 => ⟨S_, .i32⟩
  | 111 => ⟨S1x64, .i32⟩
  | 112 => ⟨S1x64, .i32⟩
  | 113 => ⟨S1x64, .i32⟩
  | 114 => ⟨S64x64, .i32⟩
  | 115 => ⟨S64x64, .i32⟩
  | 116 => ⟨S64x64x1, .i32⟩
  | 117 => ⟨S64x64x1, .i32⟩
  | 118 => ⟨S64x64x2, .i32⟩
  | 119 => ⟨S4x96x64x64, .f32⟩
  | 120 => ⟨S_, .i32⟩
  | 121 => ⟨S64x1, .i32⟩
  | 122 => ⟨S64x1, .i1⟩
  | 123 => ⟨S_, .i32⟩
  | 124 => ⟨S64x1, .i32⟩
  | 125 => ⟨S64x1, .i32⟩
  | 126 => ⟨S64x1, .i32⟩
  | 127 => ⟨S_, .i32⟩
  | _ => ⟨S4x96x128x128, .f32⟩

abbrev hbmTy0_1 (i : Nat) : BufTy := match i % 128 with
  | 0 => ⟨S1x64, .i32⟩
  | 1 => ⟨S1x64, .i1⟩
  | 2 => ⟨S_, .i32⟩
  | 3 => ⟨S1x64, .i32⟩
  | 4 => ⟨S1x64, .i32⟩
  | 5 => ⟨S1x64, .i32⟩
  | 6 => ⟨S64x64, .i32⟩
  | 7 => ⟨S64x64, .i32⟩
  | 8 => ⟨S64x64x1, .i32⟩
  | 9 => ⟨S64x64x1, .i32⟩
  | 10 => ⟨S64x64x2, .i32⟩
  | 11 => ⟨S4x96x64x64, .f32⟩
  | 12 => ⟨S_, .i32⟩
  | 13 => ⟨S64x1, .i32⟩
  | 14 => ⟨S64x1, .i1⟩
  | 15 => ⟨S_, .i32⟩
  | 16 => ⟨S64x1, .i32⟩
  | 17 => ⟨S64x1, .i32⟩
  | 18 => ⟨S64x1, .i32⟩
  | 19 => ⟨S_, .i32⟩
  | 20 => ⟨S1x64, .i32⟩
  | 21 => ⟨S1x64, .i1⟩
  | 22 => ⟨S_, .i32⟩
  | 23 => ⟨S1x64, .i32⟩
  | 24 => ⟨S1x64, .i32⟩
  | 25 => ⟨S1x64, .i32⟩
  | 26 => ⟨S64x64, .i32⟩
  | 27 => ⟨S64x64, .i32⟩
  | 28 => ⟨S64x64x1, .i32⟩
  | 29 => ⟨S64x64x1, .i32⟩
  | 30 => ⟨S64x64x2, .i32⟩
  | 31 => ⟨S4x96x64x64, .f32⟩
  | 32 => ⟨S_, .f32⟩
  | 33 => ⟨S1x64, .f32⟩
  | 34 => ⟨S1x64, .f32⟩
  | 35 => ⟨S1x1x1x64, .f32⟩
  | 36 => ⟨S4x96x64x64, .f32⟩
  | 37 => ⟨S4x96x64x64, .f32⟩
  | 38 => ⟨S1x1x1x64, .f32⟩
  | 39 => ⟨S4x96x64x64, .f32⟩
  | 40 => ⟨S4x96x64x64, .f32⟩
  | 41 => ⟨S4x96x64x64, .f32⟩
  | 42 => ⟨S_, .f32⟩
  | 43 => ⟨S1x64, .f32⟩
  | 44 => ⟨S1x64, .f32⟩
  | 45 => ⟨S1x1x1x64, .f32⟩
  | 46 => ⟨S4x96x64x64, .f32⟩
  | 47 => ⟨S4x96x64x64, .f32⟩
  | 48 => ⟨S1x1x1x64, .f32⟩
  | 49 => ⟨S4x96x64x64, .f32⟩
  | 50 => ⟨S4x96x64x64, .f32⟩
  | 51 => ⟨S4x96x64x64, .f32⟩
  | 52 => ⟨S_, .f32⟩
  | 53 => ⟨S64x1, .f32⟩
  | 54 => ⟨S64x1, .f32⟩
  | 55 => ⟨S1x1x64x1, .f32⟩
  | 56 => ⟨S4x96x64x64, .f32⟩
  | 57 => ⟨S4x96x64x64, .f32⟩
  | 58 => ⟨S1x1x64x1, .f32⟩
  | 59 => ⟨S4x96x64x64, .f32⟩
  | 60 => ⟨S4x96x64x64, .f32⟩
  | 61 => ⟨S4x96x64x64, .f32⟩
  | 62 => ⟨S64, .f32⟩
  | 63 => ⟨S_, .f32⟩
  | 64 => ⟨S64, .f32⟩
  | 65 => ⟨S64, .f32⟩
  | 66 => ⟨S_, .f32⟩
  | 67 => ⟨S64, .f32⟩
  | 68 => ⟨S64, .f32⟩
  | 69 => ⟨S_, .f32⟩
  | 70 => ⟨S64, .f32⟩
  | 71 => ⟨S64, .f32⟩
  | 72 => ⟨S_, .f32⟩
  | 73 => ⟨S64, .f32⟩
  | 74 => ⟨S64, .f32⟩
  | 75 => ⟨S64, .f32⟩
  | 76 => ⟨S_, .f32⟩
  | 77 => ⟨S64, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S_, .f32⟩
  | 86 => ⟨S64, .f32⟩
  | 87 => ⟨S64, .f32⟩
  | 88 => ⟨S64, .f32⟩
  | 89 => ⟨S64, .f32⟩
  | 90 => ⟨S64, .f32⟩
  | 91 => ⟨S64x1, .f32⟩
  | 92 => ⟨S64, .f32⟩
  | 93 => ⟨S1x64, .f32⟩
  | 94 => ⟨S64, .i32⟩
  | 95 => ⟨S_, .i32⟩
  | 96 => ⟨S_, .i32⟩
  | 97 => ⟨S_, .i32⟩
  | 98 => ⟨S64, .i32⟩
  | 99 => ⟨S64, .i32⟩
  | 100 => ⟨S_, .i32⟩
  | 101 => ⟨S64, .i32⟩
  | 102 => ⟨S64, .i32⟩
  | 103 => ⟨S_, .i32⟩
  | 104 => ⟨S64, .i32⟩
  | 105 => ⟨S64, .i32⟩
  | 106 => ⟨S_, .i32⟩
  | 107 => ⟨S_, .i32⟩
  | 108 => ⟨S_, .i32⟩
  | 109 => ⟨S64, .i32⟩
  | 110 => ⟨S64, .i32⟩
  | 111 => ⟨S_, .i32⟩
  | 112 => ⟨S64, .i32⟩
  | 113 => ⟨S64, .i32⟩
  | 114 => ⟨S64, .i32⟩
  | 115 => ⟨S_, .i32⟩
  | 116 => ⟨S_, .i32⟩
  | 117 => ⟨S_, .i32⟩
  | 118 => ⟨S64, .i32⟩
  | 119 => ⟨S64, .i32⟩
  | 120 => ⟨S_, .i32⟩
  | 121 => ⟨S64, .i32⟩
  | 122 => ⟨S64, .i32⟩
  | 123 => ⟨S_, .i32⟩
  | 124 => ⟨S64, .i32⟩
  | 125 => ⟨S64, .i32⟩
  | 126 => ⟨S_, .i32⟩
  | 127 => ⟨S_, .i32⟩
  | _ => ⟨S4x96x128x128, .f32⟩

abbrev hbmTy0_2 (i : Nat) : BufTy := match i % 128 with
  | 0 => ⟨S_, .i32⟩
  | 1 => ⟨S64, .i32⟩
  | 2 => ⟨S64, .i32⟩
  | 3 => ⟨S_, .i32⟩
  | 4 => ⟨S64, .i32⟩
  | 5 => ⟨S64, .i32⟩
  | 6 => ⟨S64x1, .i32⟩
  | 7 => ⟨S64x1, .i32⟩
  | 8 => ⟨S1x64, .i32⟩
  | 9 => ⟨S1x64, .i32⟩
  | 10 => ⟨S_, .i32⟩
  | 11 => ⟨S64x1, .i32⟩
  | 12 => ⟨S64x1, .i1⟩
  | 13 => ⟨S_, .i32⟩
  | 14 => ⟨S64x1, .i32⟩
  | 15 => ⟨S64x1, .i32⟩
  | 16 => ⟨S64x1, .i32⟩
  | 17 => ⟨S_, .i32⟩
  | 18 => ⟨S1x64, .i32⟩
  | 19 => ⟨S1x64, .i1⟩
  | 20 => ⟨S_, .i32⟩
  | 21 => ⟨S1x64, .i32⟩
  | 22 => ⟨S1x64, .i32⟩
  | 23 => ⟨S1x64, .i32⟩
  | 24 => ⟨S64x64, .i32⟩
  | 25 => ⟨S64x64, .i32⟩
  | 26 => ⟨S64x64x1, .i32⟩
  | 27 => ⟨S64x64x1, .i32⟩
  | 28 => ⟨S64x64x2, .i32⟩
  | 29 => ⟨S4x192x64x64, .f32⟩
  | 30 => ⟨S_, .i32⟩
  | 31 => ⟨S64x1, .i32⟩
  | 32 => ⟨S64x1, .i1⟩
  | 33 => ⟨S_, .i32⟩
  | 34 => ⟨S64x1, .i32⟩
  | 35 => ⟨S64x1, .i32⟩
  | 36 => ⟨S64x1, .i32⟩
  | 37 => ⟨S_, .i32⟩
  | 38 => ⟨S1x64, .i32⟩
  | 39 => ⟨S1x64, .i1⟩
  | 40 => ⟨S_, .i32⟩
  | 41 => ⟨S1x64, .i32⟩
  | 42 => ⟨S1x64, .i32⟩
  | 43 => ⟨S1x64, .i32⟩
  | 44 => ⟨S64x64, .i32⟩
  | 45 => ⟨S64x64, .i32⟩
  | 46 => ⟨S64x64x1, .i32⟩
  | 47 => ⟨S64x64x1, .i32⟩
  | 48 => ⟨S64x64x2, .i32⟩
  | 49 => ⟨S4x192x64x64, .f32⟩
  | 50 => ⟨S_, .i32⟩
  | 51 => ⟨S64x1, .i32⟩
  | 52 => ⟨S64x1, .i1⟩
  | 53 => ⟨S_, .i32⟩
  | 54 => ⟨S64x1, .i32⟩
  | 55 => ⟨S64x1, .i32⟩
  | 56 => ⟨S64x1, .i32⟩
  | 57 => ⟨S_, .i32⟩
  | 58 => ⟨S1x64, .i32⟩
  | 59 => ⟨S1x64, .i1⟩
  | 60 => ⟨S_, .i32⟩
  | 61 => ⟨S1x64, .i32⟩
  | 62 => ⟨S1x64, .i32⟩
  | 63 => ⟨S1x64, .i32⟩
  | 64 => ⟨S64x64, .i32⟩
  | 65 => ⟨S64x64, .i32⟩
  | 66 => ⟨S64x64x1, .i32⟩
  | 67 => ⟨S64x64x1, .i32⟩
  | 68 => ⟨S64x64x2, .i32⟩
  | 69 => ⟨S4x192x64x64, .f32⟩
  | 70 => ⟨S_, .i32⟩
  | 71 => ⟨S64x1, .i32⟩
  | 72 => ⟨S64x1, .i1⟩
  | 73 => ⟨S_, .i32⟩
  | 74 => ⟨S64x1, .i32⟩
  | 75 => ⟨S64x1, .i32⟩
  | 76 => ⟨S64x1, .i32⟩
  | 77 => ⟨S_, .i32⟩
  | 78 => ⟨S1x64, .i32⟩
  | 79 => ⟨S1x64, .i1⟩
  | 80 => ⟨S_, .i32⟩
  | 81 => ⟨S1x64, .i32⟩
  | 82 => ⟨S1x64, .i32⟩
  | 83 => ⟨S1x64, .i32⟩
  | 84 => ⟨S64x64, .i32⟩
  | 85 => ⟨S64x64, .i32⟩
  | 86 => ⟨S64x64x1, .i32⟩
  | 87 => ⟨S64x64x1, .i32⟩
  | 88 => ⟨S64x64x2, .i32⟩
  | 89 => ⟨S4x192x64x64, .f32⟩
  | 90 => ⟨S_, .f32⟩
  | 91 => ⟨S1x64, .f32⟩
  | 92 => ⟨S1x64, .f32⟩
  | 93 => ⟨S1x1x1x64, .f32⟩
  | 94 => ⟨S4x192x64x64, .f32⟩
  | 95 => ⟨S4x192x64x64, .f32⟩
  | 96 => ⟨S1x1x1x64, .f32⟩
  | 97 => ⟨S4x192x64x64, .f32⟩
  | 98 => ⟨S4x192x64x64, .f32⟩
  | 99 => ⟨S4x192x64x64, .f32⟩
  | 100 => ⟨S_, .f32⟩
  | 101 => ⟨S1x64, .f32⟩
  | 102 => ⟨S1x64, .f32⟩
  | 103 => ⟨S1x1x1x64, .f32⟩
  | 104 => ⟨S4x192x64x64, .f32⟩
  | 105 => ⟨S4x192x64x64, .f32⟩
  | 106 => ⟨S1x1x1x64, .f32⟩
  | 107 => ⟨S4x192x64x64, .f32⟩
  | 108 => ⟨S4x192x64x64, .f32⟩
  | 109 => ⟨S4x192x64x64, .f32⟩
  | 110 => ⟨S_, .f32⟩
  | 111 => ⟨S64x1, .f32⟩
  | 112 => ⟨S64x1, .f32⟩
  | 113 => ⟨S1x1x64x1, .f32⟩
  | 114 => ⟨S4x192x64x64, .f32⟩
  | 115 => ⟨S4x192x64x64, .f32⟩
  | 116 => ⟨S1x1x64x1, .f32⟩
  | 117 => ⟨S4x192x64x64, .f32⟩
  | 118 => ⟨S4x192x64x64, .f32⟩
  | 119 => ⟨S4x192x64x64, .f32⟩
  | 120 => ⟨S64, .f32⟩
  | 121 => ⟨S_, .f32⟩
  | 122 => ⟨S64, .f32⟩
  | 123 => ⟨S64, .f32⟩
  | 124 => ⟨S_, .f32⟩
  | 125 => ⟨S64, .f32⟩
  | 126 => ⟨S64, .f32⟩
  | 127 => ⟨S_, .f32⟩
  | _ => ⟨S4x96x128x128, .f32⟩

abbrev hbmTy0_3 (i : Nat) : BufTy := match i % 128 with
  | 0 => ⟨S64, .f32⟩
  | 1 => ⟨S64, .f32⟩
  | 2 => ⟨S_, .f32⟩
  | 3 => ⟨S64, .f32⟩
  | 4 => ⟨S64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S64, .f32⟩
  | 19 => ⟨S64, .f32⟩
  | 20 => ⟨S64, .f32⟩
  | 21 => ⟨S64x1, .f32⟩
  | 22 => ⟨S64, .f32⟩
  | 23 => ⟨S1x64, .f32⟩
  | 24 => ⟨S64, .i32⟩
  | 25 => ⟨S_, .i32⟩
  | 26 => ⟨S_, .i32⟩
  | 27 => ⟨S_, .i32⟩
  | 28 => ⟨S64, .i32⟩
  | 29 => ⟨S64, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S_, .i32⟩
  | 37 => ⟨S_, .i32⟩
  | 38 => ⟨S_, .i32⟩
  | 39 => ⟨S64, .i32⟩
  | 40 => ⟨S64, .i32⟩
  | 41 => ⟨S_, .i32⟩
  | 42 => ⟨S64, .i32⟩
  | 43 => ⟨S64, .i32⟩
  | 44 => ⟨S64, .i32⟩
  | 45 => ⟨S_, .i32⟩
  | 46 => ⟨S_, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S_, .i32⟩
  | 54 => ⟨S64, .i32⟩
  | 55 => ⟨S64, .i32⟩
  | 56 => ⟨S_, .i32⟩
  | 57 => ⟨S_, .i32⟩
  | 58 => ⟨S_, .i32⟩
  | 59 => ⟨S64, .i32⟩
  | 60 => ⟨S64, .i32⟩
  | 61 => ⟨S_, .i32⟩
  | 62 => ⟨S64, .i32⟩
  | 63 => ⟨S64, .i32⟩
  | 64 => ⟨S64x1, .i32⟩
  | 65 => ⟨S64x1, .i32⟩
  | 66 => ⟨S1x64, .i32⟩
  | 67 => ⟨S1x64, .i32⟩
  | 68 => ⟨S_, .i32⟩
  | 69 => ⟨S64x1, .i32⟩
  | 70 => ⟨S64x1, .i1⟩
  | 71 => ⟨S_, .i32⟩
  | 72 => ⟨S64x1, .i32⟩
  | 73 => ⟨S64x1, .i32⟩
  | 74 => ⟨S64x1, .i32⟩
  | 75 => ⟨S_, .i32⟩
  | 76 => ⟨S1x64, .i32⟩
  | 77 => ⟨S1x64, .i1⟩
  | 78 => ⟨S_, .i32⟩
  | 79 => ⟨S1x64, .i32⟩
  | 80 => ⟨S1x64, .i32⟩
  | 81 => ⟨S1x64, .i32⟩
  | 82 => ⟨S64x64, .i32⟩
  | 83 => ⟨S64x64, .i32⟩
  | 84 => ⟨S64x64x1, .i32⟩
  | 85 => ⟨S64x64x1, .i32⟩
  | 86 => ⟨S64x64x2, .i32⟩
  | 87 => ⟨S4x384x64x64, .f32⟩
  | 88 => ⟨S_, .i32⟩
  | 89 => ⟨S64x1, .i32⟩
  | 90 => ⟨S64x1, .i1⟩
  | 91 => ⟨S_, .i32⟩
  | 92 => ⟨S64x1, .i32⟩
  | 93 => ⟨S64x1, .i32⟩
  | 94 => ⟨S64x1, .i32⟩
  | 95 => ⟨S_, .i32⟩
  | 96 => ⟨S1x64, .i32⟩
  | 97 => ⟨S1x64, .i1⟩
  | 98 => ⟨S_, .i32⟩
  | 99 => ⟨S1x64, .i32⟩
  | 100 => ⟨S1x64, .i32⟩
  | 101 => ⟨S1x64, .i32⟩
  | 102 => ⟨S64x64, .i32⟩
  | 103 => ⟨S64x64, .i32⟩
  | 104 => ⟨S64x64x1, .i32⟩
  | 105 => ⟨S64x64x1, .i32⟩
  | 106 => ⟨S64x64x2, .i32⟩
  | 107 => ⟨S4x384x64x64, .f32⟩
  | 108 => ⟨S_, .i32⟩
  | 109 => ⟨S64x1, .i32⟩
  | 110 => ⟨S64x1, .i1⟩
  | 111 => ⟨S_, .i32⟩
  | 112 => ⟨S64x1, .i32⟩
  | 113 => ⟨S64x1, .i32⟩
  | 114 => ⟨S64x1, .i32⟩
  | 115 => ⟨S_, .i32⟩
  | 116 => ⟨S1x64, .i32⟩
  | 117 => ⟨S1x64, .i1⟩
  | 118 => ⟨S_, .i32⟩
  | 119 => ⟨S1x64, .i32⟩
  | 120 => ⟨S1x64, .i32⟩
  | 121 => ⟨S1x64, .i32⟩
  | 122 => ⟨S64x64, .i32⟩
  | 123 => ⟨S64x64, .i32⟩
  | 124 => ⟨S64x64x1, .i32⟩
  | 125 => ⟨S64x64x1, .i32⟩
  | 126 => ⟨S64x64x2, .i32⟩
  | 127 => ⟨S4x384x64x64, .f32⟩
  | _ => ⟨S4x96x128x128, .f32⟩

abbrev hbmTy0_4 (i : Nat) : BufTy := match i % 128 with
  | 0 => ⟨S_, .i32⟩
  | 1 => ⟨S64x1, .i32⟩
  | 2 => ⟨S64x1, .i1⟩
  | 3 => ⟨S_, .i32⟩
  | 4 => ⟨S64x1, .i32⟩
  | 5 => ⟨S64x1, .i32⟩
  | 6 => ⟨S64x1, .i32⟩
  | 7 => ⟨S_, .i32⟩
  | 8 => ⟨S1x64, .i32⟩
  | 9 => ⟨S1x64, .i1⟩
  | 10 => ⟨S_, .i32⟩
  | 11 => ⟨S1x64, .i32⟩
  | 12 => ⟨S1x64, .i32⟩
  | 13 => ⟨S1x64, .i32⟩
  | 14 => ⟨S64x64, .i32⟩
  | 15 => ⟨S64x64, .i32⟩
  | 16 => ⟨S64x64x1, .i32⟩
  | 17 => ⟨S64x64x1, .i32⟩
  | 18 => ⟨S64x64x2, .i32⟩
  | 19 => ⟨S4x384x64x64, .f32⟩
  | 20 => ⟨S_, .f32⟩
  | 21 => ⟨S1x64, .f32⟩
  | 22 => ⟨S1x64, .f32⟩
  | 23 => ⟨S1x1x1x64, .f32⟩
  | 24 => ⟨S4x384x64x64, .f32⟩
  | 25 => ⟨S4x384x64x64, .f32⟩
  | 26 => ⟨S1x1x1x64, .f32⟩
  | 27 => ⟨S4x384x64x64, .f32⟩
  | 28 => ⟨S4x384x64x64, .f32⟩
  | 29 => ⟨S4x384x64x64, .f32⟩
  | 30 => ⟨S_, .f32⟩
  | 31 => ⟨S1x64, .f32⟩
  | 32 => ⟨S1x64, .f32⟩
  | 33 => ⟨S1x1x1x64, .f32⟩
  | 34 => ⟨S4x384x64x64, .f32⟩
  | 35 => ⟨S4x384x64x64, .f32⟩
  | 36 => ⟨S1x1x1x64, .f32⟩
  | 37 => ⟨S4x384x64x64, .f32⟩
  | 38 => ⟨S4x384x64x64, .f32⟩
  | 39 => ⟨S4x384x64x64, .f32⟩
  | 40 => ⟨S_, .f32⟩
  | 41 => ⟨S64x1, .f32⟩
  | 42 => ⟨S64x1, .f32⟩
  | 43 => ⟨S1x1x64x1, .f32⟩
  | 44 => ⟨S4x384x64x64, .f32⟩
  | 45 => ⟨S4x384x64x64, .f32⟩
  | 46 => ⟨S1x1x64x1, .f32⟩
  | 47 => ⟨S4x384x64x64, .f32⟩
  | 48 => ⟨S4x384x64x64, .f32⟩
  | 49 => ⟨S4x384x64x64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S64, .f32⟩
  | 64 => ⟨S_, .f32⟩
  | 65 => ⟨S64, .f32⟩
  | 66 => ⟨S64, .f32⟩
  | 67 => ⟨S_, .f32⟩
  | 68 => ⟨S64, .f32⟩
  | 69 => ⟨S64, .f32⟩
  | 70 => ⟨S_, .f32⟩
  | 71 => ⟨S64, .f32⟩
  | 72 => ⟨S64, .f32⟩
  | 73 => ⟨S_, .f32⟩
  | 74 => ⟨S64, .f32⟩
  | 75 => ⟨S64, .f32⟩
  | 76 => ⟨S64, .f32⟩
  | 77 => ⟨S64, .f32⟩
  | 78 => ⟨S64, .f32⟩
  | 79 => ⟨S64x1, .f32⟩
  | 80 => ⟨S64, .f32⟩
  | 81 => ⟨S1x64, .f32⟩
  | 82 => ⟨S64, .i32⟩
  | 83 => ⟨S_, .i32⟩
  | 84 => ⟨S_, .i32⟩
  | 85 => ⟨S_, .i32⟩
  | 86 => ⟨S64, .i32⟩
  | 87 => ⟨S64, .i32⟩
  | 88 => ⟨S_, .i32⟩
  | 89 => ⟨S64, .i32⟩
  | 90 => ⟨S64, .i32⟩
  | 91 => ⟨S_, .i32⟩
  | 92 => ⟨S64, .i32⟩
  | 93 => ⟨S64, .i32⟩
  | 94 => ⟨S_, .i32⟩
  | 95 => ⟨S_, .i32⟩
  | 96 => ⟨S_, .i32⟩
  | 97 => ⟨S64, .i32⟩
  | 98 => ⟨S64, .i32⟩
  | 99 => ⟨S_, .i32⟩
  | 100 => ⟨S64, .i32⟩
  | 101 => ⟨S64, .i32⟩
  | 102 => ⟨S64, .i32⟩
  | 103 => ⟨S_, .i32⟩
  | 104 => ⟨S_, .i32⟩
  | 105 => ⟨S_, .i32⟩
  | 106 => ⟨S64, .i32⟩
  | 107 => ⟨S64, .i32⟩
  | 108 => ⟨S_, .i32⟩
  | 109 => ⟨S64, .i32⟩
  | 110 => ⟨S64, .i32⟩
  | 111 => ⟨S_, .i32⟩
  | 112 => ⟨S64, .i32⟩
  | 113 => ⟨S64, .i32⟩
  | 114 => ⟨S_, .i32⟩
  | 115 => ⟨S_, .i32⟩
  | 116 => ⟨S_, .i32⟩
  | 117 => ⟨S64, .i32⟩
  | 118 => ⟨S64, .i32⟩
  | 119 => ⟨S_, .i32⟩
  | 120 => ⟨S64, .i32⟩
  | 121 => ⟨S64, .i32⟩
  | 122 => ⟨S64x1, .i32⟩
  | 123 => ⟨S64x1, .i32⟩
  | 124 => ⟨S1x64, .i32⟩
  | 125 => ⟨S1x64, .i32⟩
  | 126 => ⟨S_, .i32⟩
  | 127 => ⟨S64x1, .i32⟩
  | _ => ⟨S4x96x128x128, .f32⟩

abbrev hbmTy0_5 (i : Nat) : BufTy := match i % 128 with
  | 0 => ⟨S64x1, .i1⟩
  | 1 => ⟨S_, .i32⟩
  | 2 => ⟨S64x1, .i32⟩
  | 3 => ⟨S64x1, .i32⟩
  | 4 => ⟨S64x1, .i32⟩
  | 5 => ⟨S_, .i32⟩
  | 6 => ⟨S1x64, .i32⟩
  | 7 => ⟨S1x64, .i1⟩
  | 8 => ⟨S_, .i32⟩
  | 9 => ⟨S1x64, .i32⟩
  | 10 => ⟨S1x64, .i32⟩
  | 11 => ⟨S1x64, .i32⟩
  | 12 => ⟨S64x64, .i32⟩
  | 13 => ⟨S64x64, .i32⟩
  | 14 => ⟨S64x64x1, .i32⟩
  | 15 => ⟨S64x64x1, .i32⟩
  | 16 => ⟨S64x64x2, .i32⟩
  | 17 => ⟨S4x768x64x64, .f32⟩
  | 18 => ⟨S_, .i32⟩
  | 19 => ⟨S64x1, .i32⟩
  | 20 => ⟨S64x1, .i1⟩
  | 21 => ⟨S_, .i32⟩
  | 22 => ⟨S64x1, .i32⟩
  | 23 => ⟨S64x1, .i32⟩
  | 24 => ⟨S64x1, .i32⟩
  | 25 => ⟨S_, .i32⟩
  | 26 => ⟨S1x64, .i32⟩
  | 27 => ⟨S1x64, .i1⟩
  | 28 => ⟨S_, .i32⟩
  | 29 => ⟨S1x64, .i32⟩
  | 30 => ⟨S1x64, .i32⟩
  | 31 => ⟨S1x64, .i32⟩
  | 32 => ⟨S64x64, .i32⟩
  | 33 => ⟨S64x64, .i32⟩
  | 34 => ⟨S64x64x1, .i32⟩
  | 35 => ⟨S64x64x1, .i32⟩
  | 36 => ⟨S64x64x2, .i32⟩
  | 37 => ⟨S4x768x64x64, .f32⟩
  | 38 => ⟨S_, .i32⟩
  | 39 => ⟨S64x1, .i32⟩
  | 40 => ⟨S64x1, .i1⟩
  | 41 => ⟨S_, .i32⟩
  | 42 => ⟨S64x1, .i32⟩
  | 43 => ⟨S64x1, .i32⟩
  | 44 => ⟨S64x1, .i32⟩
  | 45 => ⟨S_, .i32⟩
  | 46 => ⟨S1x64, .i32⟩
  | 47 => ⟨S1x64, .i1⟩
  | 48 => ⟨S_, .i32⟩
  | 49 => ⟨S1x64, .i32⟩
  | 50 => ⟨S1x64, .i32⟩
  | 51 => ⟨S1x64, .i32⟩
  | 52 => ⟨S64x64, .i32⟩
  | 53 => ⟨S64x64, .i32⟩
  | 54 => ⟨S64x64x1, .i32⟩
  | 55 => ⟨S64x64x1, .i32⟩
  | 56 => ⟨S64x64x2, .i32⟩
  | 57 => ⟨S4x768x64x64, .f32⟩
  | 58 => ⟨S_, .i32⟩
  | 59 => ⟨S64x1, .i32⟩
  | 60 => ⟨S64x1, .i1⟩
  | 61 => ⟨S_, .i32⟩
  | 62 => ⟨S64x1, .i32⟩
  | 63 => ⟨S64x1, .i32⟩
  | 64 => ⟨S64x1, .i32⟩
  | 65 => ⟨S_, .i32⟩
  | 66 => ⟨S1x64, .i32⟩
  | 67 => ⟨S1x64, .i1⟩
  | 68 => ⟨S_, .i32⟩
  | 69 => ⟨S1x64, .i32⟩
  | 70 => ⟨S1x64, .i32⟩
  | 71 => ⟨S1x64, .i32⟩
  | 72 => ⟨S64x64, .i32⟩
  | 73 => ⟨S64x64, .i32⟩
  | 74 => ⟨S64x64x1, .i32⟩
  | 75 => ⟨S64x64x1, .i32⟩
  | 76 => ⟨S64x64x2, .i32⟩
  | 77 => ⟨S4x768x64x64, .f32⟩
  | 78 => ⟨S_, .f32⟩
  | 79 => ⟨S1x64, .f32⟩
  | 80 => ⟨S1x64, .f32⟩
  | 81 => ⟨S1x1x1x64, .f32⟩
  | 82 => ⟨S4x768x64x64, .f32⟩
  | 83 => ⟨S4x768x64x64, .f32⟩
  | 84 => ⟨S1x1x1x64, .f32⟩
  | 85 => ⟨S4x768x64x64, .f32⟩
  | 86 => ⟨S4x768x64x64, .f32⟩
  | 87 => ⟨S4x768x64x64, .f32⟩
  | 88 => ⟨S_, .f32⟩
  | 89 => ⟨S1x64, .f32⟩
  | 90 => ⟨S1x64, .f32⟩
  | 91 => ⟨S1x1x1x64, .f32⟩
  | 92 => ⟨S4x768x64x64, .f32⟩
  | 93 => ⟨S4x768x64x64, .f32⟩
  | 94 => ⟨S1x1x1x64, .f32⟩
  | 95 => ⟨S4x768x64x64, .f32⟩
  | 96 => ⟨S4x768x64x64, .f32⟩
  | 97 => ⟨S4x768x64x64, .f32⟩
  | 98 => ⟨S_, .f32⟩
  | 99 => ⟨S64x1, .f32⟩
  | 100 => ⟨S64x1, .f32⟩
  | 101 => ⟨S1x1x64x1, .f32⟩
  | 102 => ⟨S4x768x64x64, .f32⟩
  | 103 => ⟨S4x768x64x64, .f32⟩
  | 104 => ⟨S1x1x64x1, .f32⟩
  | 105 => ⟨S4x768x64x64, .f32⟩
  | 106 => ⟨S4x768x64x64, .f32⟩
  | 107 => ⟨S4x768x64x64, .f32⟩
  | 108 => ⟨S4x1440x64x64, .f32⟩
  | _ => ⟨S4x96x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x96x128x128, .f32⟩

abbrev bufTy : (tb : Table) → Fin (tcTables nBuf tb) → BufTy
  | .hbm, ⟨i, _⟩ => hbmTy i
  | _, _ => ⟨S4x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_c_7 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_c_8 : Ref sig .tc := ⟨.hbm, 45, rfl⟩
abbrev main_v26 : Ref sig .tc := ⟨.hbm, 46, rfl⟩
abbrev main_v27 : Ref sig .tc := ⟨.hbm, 47, rfl⟩
abbrev main_c_9 : Ref sig .tc := ⟨.hbm, 48, rfl⟩
abbrev main_c_10 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v28 : Ref sig .tc := ⟨.hbm, 55, rfl⟩
abbrev main_v29 : Ref sig .tc := ⟨.hbm, 56, rfl⟩
abbrev main_c_11 : Ref sig .tc := ⟨.hbm, 57, rfl⟩
abbrev main_c_12 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v30 : Ref sig .tc := ⟨.hbm, 64, rfl⟩
abbrev main_c_13 : Ref sig .tc := ⟨.hbm, 65, rfl⟩
abbrev main_v31 : Ref sig .tc := ⟨.hbm, 66, rfl⟩
abbrev main_v32 : Ref sig .tc := ⟨.hbm, 67, rfl⟩
abbrev main_c_14 : Ref sig .tc := ⟨.hbm, 68, rfl⟩
abbrev main_c_15 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_16 : Ref sig .tc := ⟨.hbm, 80, rfl⟩
abbrev main_v38 : Ref sig .tc := ⟨.hbm, 81, rfl⟩
abbrev main_v39 : Ref sig .tc := ⟨.hbm, 82, rfl⟩
abbrev main_c_17 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_c_18 : Ref sig .tc := ⟨.hbm, 87, rfl⟩
abbrev main_v43 : Ref sig .tc := ⟨.hbm, 88, rfl⟩
abbrev main_v44 : Ref sig .tc := ⟨.hbm, 89, rfl⟩
abbrev main_c_19 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_c_20 : Ref sig .tc := ⟨.hbm, 100, rfl⟩
abbrev main_v54 : Ref sig .tc := ⟨.hbm, 101, rfl⟩
abbrev main_v55 : Ref sig .tc := ⟨.hbm, 102, rfl⟩
abbrev main_c_21 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_c_22 : Ref sig .tc := ⟨.hbm, 107, rfl⟩
abbrev main_v59 : Ref sig .tc := ⟨.hbm, 108, rfl⟩
abbrev main_v60 : Ref sig .tc := ⟨.hbm, 109, rfl⟩
abbrev main_c_23 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_c_24 : Ref sig .tc := ⟨.hbm, 120, rfl⟩
abbrev main_v70 : Ref sig .tc := ⟨.hbm, 121, rfl⟩
abbrev main_v71 : Ref sig .tc := ⟨.hbm, 122, rfl⟩
abbrev main_c_25 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_c_26 : Ref sig .tc := ⟨.hbm, 127, rfl⟩
abbrev main_v75 : Ref sig .tc := ⟨.hbm, 128, rfl⟩
abbrev main_v76 : Ref sig .tc := ⟨.hbm, 129, rfl⟩
abbrev main_c_27 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_28 : Ref sig .tc := ⟨.hbm, 140, rfl⟩
abbrev main_v86 : Ref sig .tc := ⟨.hbm, 141, rfl⟩
abbrev main_v87 : Ref sig .tc := ⟨.hbm, 142, rfl⟩
abbrev main_c_29 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_30 : Ref sig .tc := ⟨.hbm, 147, rfl⟩
abbrev main_v91 : Ref sig .tc := ⟨.hbm, 148, rfl⟩
abbrev main_v92 : Ref sig .tc := ⟨.hbm, 149, rfl⟩
abbrev main_c_31 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_32 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_33 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_cst_34 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_35 : Ref sig .tc := ⟨.hbm, 191, rfl⟩
abbrev main_v130 : Ref sig .tc := ⟨.hbm, 192, rfl⟩
abbrev main_v131 : Ref sig .tc := ⟨.hbm, 193, rfl⟩
abbrev main_cst_36 : Ref sig .tc := ⟨.hbm, 194, rfl⟩
abbrev main_v132 : Ref sig .tc := ⟨.hbm, 195, rfl⟩
abbrev main_v133 : Ref sig .tc := ⟨.hbm, 196, rfl⟩
abbrev main_cst_37 : Ref sig .tc := ⟨.hbm, 197, rfl⟩
abbrev main_v134 : Ref sig .tc := ⟨.hbm, 198, rfl⟩
abbrev main_v135 : Ref sig .tc := ⟨.hbm, 199, rfl⟩
abbrev main_cst_38 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_39 : Ref sig .tc := ⟨.hbm, 204, rfl⟩
abbrev main_v139 : Ref sig .tc := ⟨.hbm, 205, rfl⟩
abbrev main_v140 : Ref sig .tc := ⟨.hbm, 206, rfl⟩
abbrev main_cst_40 : Ref sig .tc := ⟨.hbm, 207, rfl⟩
abbrev main_v141 : Ref sig .tc := ⟨.hbm, 208, rfl⟩
abbrev main_v142 : Ref sig .tc := ⟨.hbm, 209, rfl⟩
abbrev main_cst_41 : Ref sig .tc := ⟨.hbm, 210, rfl⟩
abbrev main_v143 : Ref sig .tc := ⟨.hbm, 211, rfl⟩
abbrev main_v144 : Ref sig .tc := ⟨.hbm, 212, rfl⟩
abbrev main_cst_42 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_c_43 : Ref sig .tc := ⟨.hbm, 223, rfl⟩
abbrev main_c_44 : Ref sig .tc := ⟨.hbm, 224, rfl⟩
abbrev main_call4_v0 : Ref sig .tc := ⟨.hbm, 225, rfl⟩
abbrev main_call4_v1 : Ref sig .tc := ⟨.hbm, 226, rfl⟩
abbrev main_call4_v2 : Ref sig .tc := ⟨.hbm, 227, rfl⟩
abbrev main_call4_v3 : Ref sig .tc := ⟨.hbm, 228, rfl⟩
abbrev main_call4_v4 : Ref sig .tc := ⟨.hbm, 229, rfl⟩
abbrev main_v154 : Ref sig .tc := ⟨.hbm, 230, rfl⟩
abbrev main_c_45 : Ref sig .tc := ⟨.hbm, 231, rfl⟩
abbrev main_v155 : Ref sig .tc := ⟨.hbm, 232, rfl⟩
abbrev main_v156 : Ref sig .tc := ⟨.hbm, 233, rfl⟩
abbrev main_c_46 : Ref sig .tc := ⟨.hbm, 234, rfl⟩
abbrev main_c_47 : Ref sig .tc := ⟨.hbm, 235, rfl⟩
abbrev main_call5_v0 : Ref sig .tc := ⟨.hbm, 236, rfl⟩
abbrev main_call5_v1 : Ref sig .tc := ⟨.hbm, 237, rfl⟩
abbrev main_call5_v2 : Ref sig .tc := ⟨.hbm, 238, rfl⟩
abbrev main_call5_v3 : Ref sig .tc := ⟨.hbm, 239, rfl⟩
abbrev main_call5_v4 : Ref sig .tc := ⟨.hbm, 240, rfl⟩
abbrev main_v157 : Ref sig .tc := ⟨.hbm, 241, rfl⟩
abbrev main_v158 : Ref sig .tc := ⟨.hbm, 242, rfl⟩
abbrev main_c_48 : Ref sig .tc := ⟨.hbm, 243, rfl⟩
abbrev main_c_49 : Ref sig .tc := ⟨.hbm, 244, rfl⟩
abbrev main_call6_v0 : Ref sig .tc := ⟨.hbm, 245, rfl⟩
abbrev main_call6_v1 : Ref sig .tc := ⟨.hbm, 246, rfl⟩
abbrev main_call6_v2 : Ref sig .tc := ⟨.hbm, 247, rfl⟩
abbrev main_call6_v3 : Ref sig .tc := ⟨.hbm, 248, rfl⟩
abbrev main_call6_v4 : Ref sig .tc := ⟨.hbm, 249, rfl⟩
abbrev main_v159 : Ref sig .tc := ⟨.hbm, 250, rfl⟩
abbrev main_c_50 : Ref sig .tc := ⟨.hbm, 251, rfl⟩
abbrev main_v160 : Ref sig .tc := ⟨.hbm, 252, rfl⟩
abbrev main_v161 : Ref sig .tc := ⟨.hbm, 253, rfl⟩
abbrev main_c_51 : Ref sig .tc := ⟨.hbm, 254, rfl⟩
abbrev main_c_52 : Ref sig .tc := ⟨.hbm, 255, rfl⟩
abbrev main_call7_v0 : Ref sig .tc := ⟨.hbm, 256, rfl⟩
abbrev main_call7_v1 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_c_53 : Ref sig .tc := ⟨.hbm, 266, rfl⟩
abbrev main_v167 : Ref sig .tc := ⟨.hbm, 267, rfl⟩
abbrev main_v168 : Ref sig .tc := ⟨.hbm, 268, rfl⟩
abbrev main_c_54 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_c_55 : Ref sig .tc := ⟨.hbm, 273, rfl⟩
abbrev main_v172 : Ref sig .tc := ⟨.hbm, 274, rfl⟩
abbrev main_v173 : Ref sig .tc := ⟨.hbm, 275, rfl⟩
abbrev main_c_56 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_c_57 : Ref sig .tc := ⟨.hbm, 286, rfl⟩
abbrev main_v183 : Ref sig .tc := ⟨.hbm, 287, rfl⟩
abbrev main_v184 : Ref sig .tc := ⟨.hbm, 288, rfl⟩
abbrev main_c_58 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_c_59 : Ref sig .tc := ⟨.hbm, 293, rfl⟩
abbrev main_v188 : Ref sig .tc := ⟨.hbm, 294, rfl⟩
abbrev main_v189 : Ref sig .tc := ⟨.hbm, 295, rfl⟩
abbrev main_c_60 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_c_61 : Ref sig .tc := ⟨.hbm, 306, rfl⟩
abbrev main_v199 : Ref sig .tc := ⟨.hbm, 307, rfl⟩
abbrev main_v200 : Ref sig .tc := ⟨.hbm, 308, rfl⟩
abbrev main_c_62 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_c_63 : Ref sig .tc := ⟨.hbm, 313, rfl⟩
abbrev main_v204 : Ref sig .tc := ⟨.hbm, 314, rfl⟩
abbrev main_v205 : Ref sig .tc := ⟨.hbm, 315, rfl⟩
abbrev main_c_64 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_c_65 : Ref sig .tc := ⟨.hbm, 326, rfl⟩
abbrev main_v215 : Ref sig .tc := ⟨.hbm, 327, rfl⟩
abbrev main_v216 : Ref sig .tc := ⟨.hbm, 328, rfl⟩
abbrev main_c_66 : Ref sig .tc := ⟨.hbm, 329, rfl⟩
abbrev main_v217 : Ref sig .tc := ⟨.hbm, 330, rfl⟩
abbrev main_v218 : Ref sig .tc := ⟨.hbm, 331, rfl⟩
abbrev main_v219 : Ref sig .tc := ⟨.hbm, 332, rfl⟩
abbrev main_c_67 : Ref sig .tc := ⟨.hbm, 333, rfl⟩
abbrev main_v220 : Ref sig .tc := ⟨.hbm, 334, rfl⟩
abbrev main_v221 : Ref sig .tc := ⟨.hbm, 335, rfl⟩
abbrev main_c_68 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_v229 : Ref sig .tc := ⟨.hbm, 344, rfl⟩
abbrev main_v230 : Ref sig .tc := ⟨.hbm, 345, rfl⟩
abbrev main_cst_69 : Ref sig .tc := ⟨.hbm, 346, rfl⟩
abbrev main_v231 : Ref sig .tc := ⟨.hbm, 347, rfl⟩
abbrev main_v232 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_v237 : Ref sig .tc := ⟨.hbm, 353, rfl⟩
abbrev main_v238 : Ref sig .tc := ⟨.hbm, 354, rfl⟩
abbrev main_v239 : Ref sig .tc := ⟨.hbm, 355, rfl⟩
abbrev main_cst_70 : Ref sig .tc := ⟨.hbm, 356, rfl⟩
abbrev main_v240 : Ref sig .tc := ⟨.hbm, 357, rfl⟩
abbrev main_v241 : Ref sig .tc := ⟨.hbm, 358, rfl⟩
abbrev main_v242 : Ref sig .tc := ⟨.hbm, 359, rfl⟩
abbrev main_v243 : Ref sig .tc := ⟨.hbm, 360, rfl⟩
abbrev main_v244 : Ref sig .tc := ⟨.hbm, 361, rfl⟩
abbrev main_v245 : Ref sig .tc := ⟨.hbm, 362, rfl⟩
abbrev main_v246 : Ref sig .tc := ⟨.hbm, 363, rfl⟩
abbrev main_v247 : Ref sig .tc := ⟨.hbm, 364, rfl⟩
abbrev main_v248 : Ref sig .tc := ⟨.hbm, 365, rfl⟩
abbrev main_cst_71 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_v252 : Ref sig .tc := ⟨.hbm, 370, rfl⟩
abbrev main_v253 : Ref sig .tc := ⟨.hbm, 371, rfl⟩
abbrev main_v254 : Ref sig .tc := ⟨.hbm, 372, rfl⟩
abbrev main_v255 : Ref sig .tc := ⟨.hbm, 373, rfl⟩
abbrev main_v256 : Ref sig .tc := ⟨.hbm, 374, rfl⟩
abbrev main_v257 : Ref sig .tc := ⟨.hbm, 375, rfl⟩
abbrev main_v258 : Ref sig .tc := ⟨.hbm, 376, rfl⟩
abbrev main_cst_72 : Ref sig .tc := ⟨.hbm, 377, rfl⟩
abbrev main_v259 : Ref sig .tc := ⟨.hbm, 378, rfl⟩
abbrev main_v260 : Ref sig .tc := ⟨.hbm, 379, rfl⟩
abbrev main_cst_73 : Ref sig .tc := ⟨.hbm, 380, rfl⟩
abbrev main_v261 : Ref sig .tc := ⟨.hbm, 381, rfl⟩
abbrev main_v262 : Ref sig .tc := ⟨.hbm, 382, rfl⟩
abbrev main_cst_74 : Ref sig .tc := ⟨.hbm, 383, rfl⟩
abbrev main_v263 : Ref sig .tc := ⟨.hbm, 384, rfl⟩
abbrev main_v264 : Ref sig .tc := ⟨.hbm, 385, rfl⟩
abbrev main_cst_75 : Ref sig .tc := ⟨.hbm, 386, rfl⟩
abbrev main_v265 : Ref sig .tc := ⟨.hbm, 387, rfl⟩
abbrev main_v266 : Ref sig .tc := ⟨.hbm, 388, rfl⟩
abbrev main_v267 : Ref sig .tc := ⟨.hbm, 389, rfl⟩
abbrev main_cst_76 : Ref sig .tc := ⟨.hbm, 390, rfl⟩
abbrev main_v268 : Ref sig .tc := ⟨.hbm, 391, rfl⟩
abbrev main_v269 : Ref sig .tc := ⟨.hbm, 392, rfl⟩
abbrev main_cst_77 : Ref sig .tc := ⟨.hbm, 393, rfl⟩
abbrev main_v270 : Ref sig .tc := ⟨.hbm, 394, rfl⟩
abbrev main_v271 : Ref sig .tc := ⟨.hbm, 395, rfl⟩
abbrev main_cst_78 : Ref sig .tc := ⟨.hbm, 396, rfl⟩
abbrev main_v272 : Ref sig .tc := ⟨.hbm, 397, rfl⟩
abbrev main_v273 : Ref sig .tc := ⟨.hbm, 398, rfl⟩
abbrev main_cst_79 : Ref sig .tc := ⟨.hbm, 399, rfl⟩
abbrev main_v274 : Ref sig .tc := ⟨.hbm, 400, rfl⟩
abbrev main_v275 : Ref sig .tc := ⟨.hbm, 401, rfl⟩
abbrev main_v276 : Ref sig .tc := ⟨.hbm, 402, rfl⟩
abbrev main_v277 : Ref sig .tc := ⟨.hbm, 403, rfl⟩
abbrev main_v278 : Ref sig .tc := ⟨.hbm, 404, rfl⟩
abbrev main_v279 : Ref sig .tc := ⟨.hbm, 405, rfl⟩
abbrev main_v280 : Ref sig .tc := ⟨.hbm, 406, rfl⟩
abbrev main_v281 : Ref sig .tc := ⟨.hbm, 407, rfl⟩
abbrev main_v282 : Ref sig .tc := ⟨.hbm, 408, rfl⟩
abbrev main_c_80 : Ref sig .tc := ⟨.hbm, 409, rfl⟩
abbrev main_c_81 : Ref sig .tc := ⟨.hbm, 410, rfl⟩
abbrev main_call8_v0 : Ref sig .tc := ⟨.hbm, 411, rfl⟩
abbrev main_call8_v1 : Ref sig .tc := ⟨.hbm, 412, rfl⟩
abbrev main_call8_v2 : Ref sig .tc := ⟨.hbm, 413, rfl⟩
abbrev main_call8_v3 : Ref sig .tc := ⟨.hbm, 414, rfl⟩
abbrev main_call8_v4 : Ref sig .tc := ⟨.hbm, 415, rfl⟩
abbrev main_v283 : Ref sig .tc := ⟨.hbm, 416, rfl⟩
abbrev main_c_82 : Ref sig .tc := ⟨.hbm, 417, rfl⟩
abbrev main_v284 : Ref sig .tc := ⟨.hbm, 418, rfl⟩
abbrev main_v285 : Ref sig .tc := ⟨.hbm, 419, rfl⟩
abbrev main_c_83 : Ref sig .tc := ⟨.hbm, 420, rfl⟩
abbrev main_c_84 : Ref sig .tc := ⟨.hbm, 421, rfl⟩
abbrev main_call9_v0 : Ref sig .tc := ⟨.hbm, 422, rfl⟩
abbrev main_call9_v1 : Ref sig .tc := ⟨.hbm, 423, rfl⟩
abbrev main_call9_v2 : Ref sig .tc := ⟨.hbm, 424, rfl⟩
abbrev main_call9_v3 : Ref sig .tc := ⟨.hbm, 425, rfl⟩
abbrev main_call9_v4 : Ref sig .tc := ⟨.hbm, 426, rfl⟩
abbrev main_v286 : Ref sig .tc := ⟨.hbm, 427, rfl⟩
abbrev main_v287 : Ref sig .tc := ⟨.hbm, 428, rfl⟩
abbrev main_c_85 : Ref sig .tc := ⟨.hbm, 429, rfl⟩
abbrev main_c_86 : Ref sig .tc := ⟨.hbm, 430, rfl⟩
abbrev main_call10_v0 : Ref sig .tc := ⟨.hbm, 431, rfl⟩
abbrev main_call10_v1 : Ref sig .tc := ⟨.hbm, 432, rfl⟩
abbrev main_call10_v2 : Ref sig .tc := ⟨.hbm, 433, rfl⟩
abbrev main_call10_v3 : Ref sig .tc := ⟨.hbm, 434, rfl⟩
abbrev main_call10_v4 : Ref sig .tc := ⟨.hbm, 435, rfl⟩
abbrev main_v288 : Ref sig .tc := ⟨.hbm, 436, rfl⟩
abbrev main_c_87 : Ref sig .tc := ⟨.hbm, 437, rfl⟩
abbrev main_v289 : Ref sig .tc := ⟨.hbm, 438, rfl⟩
abbrev main_v290 : Ref sig .tc := ⟨.hbm, 439, rfl⟩
abbrev main_c_88 : Ref sig .tc := ⟨.hbm, 440, rfl⟩
abbrev main_c_89 : Ref sig .tc := ⟨.hbm, 441, rfl⟩
abbrev main_call11_v0 : Ref sig .tc := ⟨.hbm, 442, rfl⟩
abbrev main_call11_v1 : Ref sig .tc := ⟨.hbm, 443, rfl⟩
abbrev main_call11_v2 : Ref sig .tc := ⟨.hbm, 444, rfl⟩
abbrev main_call11_v3 : Ref sig .tc := ⟨.hbm, 445, rfl⟩
abbrev main_call11_v4 : Ref sig .tc := ⟨.hbm, 446, rfl⟩
abbrev main_v291 : Ref sig .tc := ⟨.hbm, 447, rfl⟩
abbrev main_v292 : Ref sig .tc := ⟨.hbm, 448, rfl⟩
abbrev main_v293 : Ref sig .tc := ⟨.hbm, 449, rfl⟩
abbrev main_v294 : Ref sig .tc := ⟨.hbm, 450, rfl⟩
abbrev main_v295 : Ref sig .tc := ⟨.hbm, 451, rfl⟩
abbrev main_c_90 : Ref sig .tc := ⟨.hbm, 452, rfl⟩
abbrev main_v296 : Ref sig .tc := ⟨.hbm, 453, rfl⟩
abbrev main_v297 : Ref sig .tc := ⟨.hbm, 454, rfl⟩
abbrev main_c_91 : Ref sig .tc := ⟨.hbm, 455, rfl⟩
abbrev main_v298 : Ref sig .tc := ⟨.hbm, 456, rfl⟩
abbrev main_v299 : Ref sig .tc := ⟨.hbm, 457, rfl⟩
abbrev main_v300 : Ref sig .tc := ⟨.hbm, 458, rfl⟩
abbrev main_c_92 : Ref sig .tc := ⟨.hbm, 459, rfl⟩
abbrev main_v301 : Ref sig .tc := ⟨.hbm, 460, rfl⟩
abbrev main_v302 : Ref sig .tc := ⟨.hbm, 461, rfl⟩
abbrev main_c_93 : Ref sig .tc := ⟨.hbm, 462, rfl⟩
abbrev main_v303 : Ref sig .tc := ⟨.hbm, 463, rfl⟩
abbrev main_v304 : Ref sig .tc := ⟨.hbm, 464, rfl⟩
abbrev main_v305 : Ref sig .tc := ⟨.hbm, 465, rfl⟩
abbrev main_v306 : Ref sig .tc := ⟨.hbm, 466, rfl⟩
abbrev main_v307 : Ref sig .tc := ⟨.hbm, 467, rfl⟩
abbrev main_v308 : Ref sig .tc := ⟨.hbm, 468, rfl⟩
abbrev main_v309 : Ref sig .tc := ⟨.hbm, 469, rfl⟩
abbrev main_v310 : Ref sig .tc := ⟨.hbm, 470, rfl⟩
abbrev main_v311 : Ref sig .tc := ⟨.hbm, 471, rfl⟩
abbrev main_c_94 : Ref sig .tc := ⟨.hbm, 472, rfl⟩
abbrev main_v312 : Ref sig .tc := ⟨.hbm, 473, rfl⟩
abbrev main_v313 : Ref sig .tc := ⟨.hbm, 474, rfl⟩
abbrev main_c_95 : Ref sig .tc := ⟨.hbm, 475, rfl⟩
abbrev main_v314 : Ref sig .tc := ⟨.hbm, 476, rfl⟩
abbrev main_v315 : Ref sig .tc := ⟨.hbm, 477, rfl⟩
abbrev main_v316 : Ref sig .tc := ⟨.hbm, 478, rfl⟩
abbrev main_c_96 : Ref sig .tc := ⟨.hbm, 479, rfl⟩
abbrev main_v317 : Ref sig .tc := ⟨.hbm, 480, rfl⟩
abbrev main_v318 : Ref sig .tc := ⟨.hbm, 481, rfl⟩
abbrev main_c_97 : Ref sig .tc := ⟨.hbm, 482, rfl⟩
abbrev main_v319 : Ref sig .tc := ⟨.hbm, 483, rfl⟩
abbrev main_v320 : Ref sig .tc := ⟨.hbm, 484, rfl⟩
abbrev main_v321 : Ref sig .tc := ⟨.hbm, 485, rfl⟩
abbrev main_v322 : Ref sig .tc := ⟨.hbm, 486, rfl⟩
abbrev main_v323 : Ref sig .tc := ⟨.hbm, 487, rfl⟩
abbrev main_v324 : Ref sig .tc := ⟨.hbm, 488, rfl⟩
abbrev main_v325 : Ref sig .tc := ⟨.hbm, 489, rfl⟩
abbrev main_v326 : Ref sig .tc := ⟨.hbm, 490, rfl⟩
abbrev main_v327 : Ref sig .tc := ⟨.hbm, 491, rfl⟩
abbrev main_c_98 : Ref sig .tc := ⟨.hbm, 492, rfl⟩
abbrev main_v328 : Ref sig .tc := ⟨.hbm, 493, rfl⟩
abbrev main_v329 : Ref sig .tc := ⟨.hbm, 494, rfl⟩
abbrev main_c_99 : Ref sig .tc := ⟨.hbm, 495, rfl⟩
abbrev main_v330 : Ref sig .tc := ⟨.hbm, 496, rfl⟩
abbrev main_v331 : Ref sig .tc := ⟨.hbm, 497, rfl⟩
abbrev main_v332 : Ref sig .tc := ⟨.hbm, 498, rfl⟩
abbrev main_c_100 : Ref sig .tc := ⟨.hbm, 499, rfl⟩
abbrev main_v333 : Ref sig .tc := ⟨.hbm, 500, rfl⟩
abbrev main_v334 : Ref sig .tc := ⟨.hbm, 501, rfl⟩
abbrev main_c_101 : Ref sig .tc := ⟨.hbm, 502, rfl⟩
abbrev main_v335 : Ref sig .tc := ⟨.hbm, 503, rfl⟩
abbrev main_v336 : Ref sig .tc := ⟨.hbm, 504, rfl⟩
abbrev main_v337 : Ref sig .tc := ⟨.hbm, 505, rfl⟩
abbrev main_v338 : Ref sig .tc := ⟨.hbm, 506, rfl⟩
abbrev main_v339 : Ref sig .tc := ⟨.hbm, 507, rfl⟩
abbrev main_v340 : Ref sig .tc := ⟨.hbm, 508, rfl⟩
abbrev main_v341 : Ref sig .tc := ⟨.hbm, 509, rfl⟩
abbrev main_v342 : Ref sig .tc := ⟨.hbm, 510, rfl⟩
abbrev main_v343 : Ref sig .tc := ⟨.hbm, 511, rfl⟩
abbrev main_c_102 : Ref sig .tc := ⟨.hbm, 512, rfl⟩
abbrev main_v344 : Ref sig .tc := ⟨.hbm, 513, rfl⟩
abbrev main_v345 : Ref sig .tc := ⟨.hbm, 514, rfl⟩
abbrev main_c_103 : Ref sig .tc := ⟨.hbm, 515, rfl⟩
abbrev main_v346 : Ref sig .tc := ⟨.hbm, 516, rfl⟩
abbrev main_v347 : Ref sig .tc := ⟨.hbm, 517, rfl⟩
abbrev main_v348 : Ref sig .tc := ⟨.hbm, 518, rfl⟩
abbrev main_c_104 : Ref sig .tc := ⟨.hbm, 519, rfl⟩
abbrev main_v349 : Ref sig .tc := ⟨.hbm, 520, rfl⟩
abbrev main_v350 : Ref sig .tc := ⟨.hbm, 521, rfl⟩
abbrev main_c_105 : Ref sig .tc := ⟨.hbm, 522, rfl⟩
abbrev main_v351 : Ref sig .tc := ⟨.hbm, 523, rfl⟩
abbrev main_v352 : Ref sig .tc := ⟨.hbm, 524, rfl⟩
abbrev main_v353 : Ref sig .tc := ⟨.hbm, 525, rfl⟩
abbrev main_v354 : Ref sig .tc := ⟨.hbm, 526, rfl⟩
abbrev main_v355 : Ref sig .tc := ⟨.hbm, 527, rfl⟩
abbrev main_v356 : Ref sig .tc := ⟨.hbm, 528, rfl⟩
abbrev main_v357 : Ref sig .tc := ⟨.hbm, 529, rfl⟩
abbrev main_v358 : Ref sig .tc := ⟨.hbm, 530, rfl⟩
abbrev main_v359 : Ref sig .tc := ⟨.hbm, 531, rfl⟩
abbrev main_cst_106 : Ref sig .tc := ⟨.hbm, 532, rfl⟩
abbrev main_v360 : Ref sig .tc := ⟨.hbm, 533, rfl⟩
abbrev main_v361 : Ref sig .tc := ⟨.hbm, 534, rfl⟩
abbrev main_v362 : Ref sig .tc := ⟨.hbm, 535, rfl⟩
abbrev main_v363 : Ref sig .tc := ⟨.hbm, 536, rfl⟩
abbrev main_v364 : Ref sig .tc := ⟨.hbm, 537, rfl⟩
abbrev main_v365 : Ref sig .tc := ⟨.hbm, 538, rfl⟩
abbrev main_v366 : Ref sig .tc := ⟨.hbm, 539, rfl⟩
abbrev main_v367 : Ref sig .tc := ⟨.hbm, 540, rfl⟩
abbrev main_v368 : Ref sig .tc := ⟨.hbm, 541, rfl⟩
abbrev main_cst_107 : Ref sig .tc := ⟨.hbm, 542, rfl⟩
abbrev main_v369 : Ref sig .tc := ⟨.hbm, 543, rfl⟩
abbrev main_v370 : Ref sig .tc := ⟨.hbm, 544, rfl⟩
abbrev main_v371 : Ref sig .tc := ⟨.hbm, 545, rfl⟩
abbrev main_v372 : Ref sig .tc := ⟨.hbm, 546, rfl⟩
abbrev main_v373 : Ref sig .tc := ⟨.hbm, 547, rfl⟩
abbrev main_v374 : Ref sig .tc := ⟨.hbm, 548, rfl⟩
abbrev main_v375 : Ref sig .tc := ⟨.hbm, 549, rfl⟩
abbrev main_v376 : Ref sig .tc := ⟨.hbm, 550, rfl⟩
abbrev main_v377 : Ref sig .tc := ⟨.hbm, 551, rfl⟩
abbrev main_cst_108 : Ref sig .tc := ⟨.hbm, 552, rfl⟩
abbrev main_v378 : Ref sig .tc := ⟨.hbm, 553, rfl⟩
abbrev main_v379 : Ref sig .tc := ⟨.hbm, 554, rfl⟩
abbrev main_v380 : Ref sig .tc := ⟨.hbm, 555, rfl⟩
abbrev main_v381 : Ref sig .tc := ⟨.hbm, 556, rfl⟩
abbrev main_v382 : Ref sig .tc := ⟨.hbm, 557, rfl⟩
abbrev main_v383 : Ref sig .tc := ⟨.hbm, 558, rfl⟩
abbrev main_v384 : Ref sig .tc := ⟨.hbm, 559, rfl⟩
abbrev main_v385 : Ref sig .tc := ⟨.hbm, 560, rfl⟩
abbrev main_v386 : Ref sig .tc := ⟨.hbm, 561, rfl⟩
abbrev main_v387 : Ref sig .tc := ⟨.hbm, 562, rfl⟩
abbrev main_cst_109 : Ref sig .tc := ⟨.hbm, 563, rfl⟩
abbrev main_v388 : Ref sig .tc := ⟨.hbm, 564, rfl⟩
abbrev main_v389 : Ref sig .tc := ⟨.hbm, 565, rfl⟩
abbrev main_cst_110 : Ref sig .tc := ⟨.hbm, 566, rfl⟩
abbrev main_v390 : Ref sig .tc := ⟨.hbm, 567, rfl⟩
abbrev main_v391 : Ref sig .tc := ⟨.hbm, 568, rfl⟩
abbrev main_cst_111 : Ref sig .tc := ⟨.hbm, 569, rfl⟩
abbrev main_v392 : Ref sig .tc := ⟨.hbm, 570, rfl⟩
abbrev main_v393 : Ref sig .tc := ⟨.hbm, 571, rfl⟩
abbrev main_cst_112 : Ref sig .tc := ⟨.hbm, 572, rfl⟩
abbrev main_v394 : Ref sig .tc := ⟨.hbm, 573, rfl⟩
abbrev main_v395 : Ref sig .tc := ⟨.hbm, 574, rfl⟩
abbrev main_v396 : Ref sig .tc := ⟨.hbm, 575, rfl⟩
abbrev main_cst_113 : Ref sig .tc := ⟨.hbm, 576, rfl⟩
abbrev main_v397 : Ref sig .tc := ⟨.hbm, 577, rfl⟩
abbrev main_v398 : Ref sig .tc := ⟨.hbm, 578, rfl⟩
abbrev main_cst_114 : Ref sig .tc := ⟨.hbm, 579, rfl⟩
abbrev main_v399 : Ref sig .tc := ⟨.hbm, 580, rfl⟩
abbrev main_v400 : Ref sig .tc := ⟨.hbm, 581, rfl⟩
abbrev main_cst_115 : Ref sig .tc := ⟨.hbm, 582, rfl⟩
abbrev main_v401 : Ref sig .tc := ⟨.hbm, 583, rfl⟩
abbrev main_v402 : Ref sig .tc := ⟨.hbm, 584, rfl⟩
abbrev main_cst_116 : Ref sig .tc := ⟨.hbm, 585, rfl⟩
abbrev main_v403 : Ref sig .tc := ⟨.hbm, 586, rfl⟩
abbrev main_v404 : Ref sig .tc := ⟨.hbm, 587, rfl⟩
abbrev main_v405 : Ref sig .tc := ⟨.hbm, 588, rfl⟩
abbrev main_v406 : Ref sig .tc := ⟨.hbm, 589, rfl⟩
abbrev main_v407 : Ref sig .tc := ⟨.hbm, 590, rfl⟩
abbrev main_v408 : Ref sig .tc := ⟨.hbm, 591, rfl⟩
abbrev main_v409 : Ref sig .tc := ⟨.hbm, 592, rfl⟩
abbrev main_v410 : Ref sig .tc := ⟨.hbm, 593, rfl⟩
abbrev main_v411 : Ref sig .tc := ⟨.hbm, 594, rfl⟩
abbrev main_c_117 : Ref sig .tc := ⟨.hbm, 595, rfl⟩
abbrev main_c_118 : Ref sig .tc := ⟨.hbm, 596, rfl⟩
abbrev main_call12_v0 : Ref sig .tc := ⟨.hbm, 597, rfl⟩
abbrev main_call12_v1 : Ref sig .tc := ⟨.hbm, 598, rfl⟩
abbrev main_call12_v2 : Ref sig .tc := ⟨.hbm, 599, rfl⟩
abbrev main_call12_v3 : Ref sig .tc := ⟨.hbm, 600, rfl⟩
abbrev main_call12_v4 : Ref sig .tc := ⟨.hbm, 601, rfl⟩
abbrev main_v412 : Ref sig .tc := ⟨.hbm, 602, rfl⟩
abbrev main_c_119 : Ref sig .tc := ⟨.hbm, 603, rfl⟩
abbrev main_v413 : Ref sig .tc := ⟨.hbm, 604, rfl⟩
abbrev main_v414 : Ref sig .tc := ⟨.hbm, 605, rfl⟩
abbrev main_c_120 : Ref sig .tc := ⟨.hbm, 606, rfl⟩
abbrev main_c_121 : Ref sig .tc := ⟨.hbm, 607, rfl⟩
abbrev main_call13_v0 : Ref sig .tc := ⟨.hbm, 608, rfl⟩
abbrev main_call13_v1 : Ref sig .tc := ⟨.hbm, 609, rfl⟩
abbrev main_call13_v2 : Ref sig .tc := ⟨.hbm, 610, rfl⟩
abbrev main_call13_v3 : Ref sig .tc := ⟨.hbm, 611, rfl⟩
abbrev main_call13_v4 : Ref sig .tc := ⟨.hbm, 612, rfl⟩
abbrev main_v415 : Ref sig .tc := ⟨.hbm, 613, rfl⟩
abbrev main_v416 : Ref sig .tc := ⟨.hbm, 614, rfl⟩
abbrev main_c_122 : Ref sig .tc := ⟨.hbm, 615, rfl⟩
abbrev main_c_123 : Ref sig .tc := ⟨.hbm, 616, rfl⟩
abbrev main_call14_v0 : Ref sig .tc := ⟨.hbm, 617, rfl⟩
abbrev main_call14_v1 : Ref sig .tc := ⟨.hbm, 618, rfl⟩
abbrev main_call14_v2 : Ref sig .tc := ⟨.hbm, 619, rfl⟩
abbrev main_call14_v3 : Ref sig .tc := ⟨.hbm, 620, rfl⟩
abbrev main_call14_v4 : Ref sig .tc := ⟨.hbm, 621, rfl⟩
abbrev main_v417 : Ref sig .tc := ⟨.hbm, 622, rfl⟩
abbrev main_c_124 : Ref sig .tc := ⟨.hbm, 623, rfl⟩
abbrev main_v418 : Ref sig .tc := ⟨.hbm, 624, rfl⟩
abbrev main_v419 : Ref sig .tc := ⟨.hbm, 625, rfl⟩
abbrev main_c_125 : Ref sig .tc := ⟨.hbm, 626, rfl⟩
abbrev main_c_126 : Ref sig .tc := ⟨.hbm, 627, rfl⟩
abbrev main_call15_v0 : Ref sig .tc := ⟨.hbm, 628, rfl⟩
abbrev main_call15_v1 : Ref sig .tc := ⟨.hbm, 629, rfl⟩
abbrev main_call15_v2 : Ref sig .tc := ⟨.hbm, 630, rfl⟩
abbrev main_call15_v3 : Ref sig .tc := ⟨.hbm, 631, rfl⟩
abbrev main_call15_v4 : Ref sig .tc := ⟨.hbm, 632, rfl⟩
abbrev main_v420 : Ref sig .tc := ⟨.hbm, 633, rfl⟩
abbrev main_v421 : Ref sig .tc := ⟨.hbm, 634, rfl⟩
abbrev main_v422 : Ref sig .tc := ⟨.hbm, 635, rfl⟩
abbrev main_v423 : Ref sig .tc := ⟨.hbm, 636, rfl⟩
abbrev main_v424 : Ref sig .tc := ⟨.hbm, 637, rfl⟩
abbrev main_c_127 : Ref sig .tc := ⟨.hbm, 638, rfl⟩
abbrev main_v425 : Ref sig .tc := ⟨.hbm, 639, rfl⟩
abbrev main_v426 : Ref sig .tc := ⟨.hbm, 640, rfl⟩
abbrev main_c_128 : Ref sig .tc := ⟨.hbm, 641, rfl⟩
abbrev main_v427 : Ref sig .tc := ⟨.hbm, 642, rfl⟩
abbrev main_v428 : Ref sig .tc := ⟨.hbm, 643, rfl⟩
abbrev main_v429 : Ref sig .tc := ⟨.hbm, 644, rfl⟩
abbrev main_c_129 : Ref sig .tc := ⟨.hbm, 645, rfl⟩
abbrev main_v430 : Ref sig .tc := ⟨.hbm, 646, rfl⟩
abbrev main_v431 : Ref sig .tc := ⟨.hbm, 647, rfl⟩
abbrev main_c_130 : Ref sig .tc := ⟨.hbm, 648, rfl⟩
abbrev main_v432 : Ref sig .tc := ⟨.hbm, 649, rfl⟩
abbrev main_v433 : Ref sig .tc := ⟨.hbm, 650, rfl⟩
abbrev main_v434 : Ref sig .tc := ⟨.hbm, 651, rfl⟩
abbrev main_v435 : Ref sig .tc := ⟨.hbm, 652, rfl⟩
abbrev main_v436 : Ref sig .tc := ⟨.hbm, 653, rfl⟩
abbrev main_v437 : Ref sig .tc := ⟨.hbm, 654, rfl⟩
abbrev main_v438 : Ref sig .tc := ⟨.hbm, 655, rfl⟩
abbrev main_v439 : Ref sig .tc := ⟨.hbm, 656, rfl⟩
abbrev main_v440 : Ref sig .tc := ⟨.hbm, 657, rfl⟩
abbrev main_c_131 : Ref sig .tc := ⟨.hbm, 658, rfl⟩
abbrev main_v441 : Ref sig .tc := ⟨.hbm, 659, rfl⟩
abbrev main_v442 : Ref sig .tc := ⟨.hbm, 660, rfl⟩
abbrev main_c_132 : Ref sig .tc := ⟨.hbm, 661, rfl⟩
abbrev main_v443 : Ref sig .tc := ⟨.hbm, 662, rfl⟩
abbrev main_v444 : Ref sig .tc := ⟨.hbm, 663, rfl⟩
abbrev main_v445 : Ref sig .tc := ⟨.hbm, 664, rfl⟩
abbrev main_c_133 : Ref sig .tc := ⟨.hbm, 665, rfl⟩
abbrev main_v446 : Ref sig .tc := ⟨.hbm, 666, rfl⟩
abbrev main_v447 : Ref sig .tc := ⟨.hbm, 667, rfl⟩
abbrev main_c_134 : Ref sig .tc := ⟨.hbm, 668, rfl⟩
abbrev main_v448 : Ref sig .tc := ⟨.hbm, 669, rfl⟩
abbrev main_v449 : Ref sig .tc := ⟨.hbm, 670, rfl⟩
abbrev main_v450 : Ref sig .tc := ⟨.hbm, 671, rfl⟩
abbrev main_v451 : Ref sig .tc := ⟨.hbm, 672, rfl⟩
abbrev main_v452 : Ref sig .tc := ⟨.hbm, 673, rfl⟩
abbrev main_v453 : Ref sig .tc := ⟨.hbm, 674, rfl⟩
abbrev main_v454 : Ref sig .tc := ⟨.hbm, 675, rfl⟩
abbrev main_v455 : Ref sig .tc := ⟨.hbm, 676, rfl⟩
abbrev main_v456 : Ref sig .tc := ⟨.hbm, 677, rfl⟩
abbrev main_c_135 : Ref sig .tc := ⟨.hbm, 678, rfl⟩
abbrev main_v457 : Ref sig .tc := ⟨.hbm, 679, rfl⟩
abbrev main_v458 : Ref sig .tc := ⟨.hbm, 680, rfl⟩
abbrev main_c_136 : Ref sig .tc := ⟨.hbm, 681, rfl⟩
abbrev main_v459 : Ref sig .tc := ⟨.hbm, 682, rfl⟩
abbrev main_v460 : Ref sig .tc := ⟨.hbm, 683, rfl⟩
abbrev main_v461 : Ref sig .tc := ⟨.hbm, 684, rfl⟩
abbrev main_c_137 : Ref sig .tc := ⟨.hbm, 685, rfl⟩
abbrev main_v462 : Ref sig .tc := ⟨.hbm, 686, rfl⟩
abbrev main_v463 : Ref sig .tc := ⟨.hbm, 687, rfl⟩
abbrev main_c_138 : Ref sig .tc := ⟨.hbm, 688, rfl⟩
abbrev main_v464 : Ref sig .tc := ⟨.hbm, 689, rfl⟩
abbrev main_v465 : Ref sig .tc := ⟨.hbm, 690, rfl⟩
abbrev main_v466 : Ref sig .tc := ⟨.hbm, 691, rfl⟩
abbrev main_v467 : Ref sig .tc := ⟨.hbm, 692, rfl⟩
abbrev main_v468 : Ref sig .tc := ⟨.hbm, 693, rfl⟩
abbrev main_v469 : Ref sig .tc := ⟨.hbm, 694, rfl⟩
abbrev main_v470 : Ref sig .tc := ⟨.hbm, 695, rfl⟩
abbrev main_v471 : Ref sig .tc := ⟨.hbm, 696, rfl⟩
abbrev main_v472 : Ref sig .tc := ⟨.hbm, 697, rfl⟩
abbrev main_c_139 : Ref sig .tc := ⟨.hbm, 698, rfl⟩
abbrev main_v473 : Ref sig .tc := ⟨.hbm, 699, rfl⟩
abbrev main_v474 : Ref sig .tc := ⟨.hbm, 700, rfl⟩
abbrev main_c_140 : Ref sig .tc := ⟨.hbm, 701, rfl⟩
abbrev main_v475 : Ref sig .tc := ⟨.hbm, 702, rfl⟩
abbrev main_v476 : Ref sig .tc := ⟨.hbm, 703, rfl⟩
abbrev main_v477 : Ref sig .tc := ⟨.hbm, 704, rfl⟩
abbrev main_c_141 : Ref sig .tc := ⟨.hbm, 705, rfl⟩
abbrev main_v478 : Ref sig .tc := ⟨.hbm, 706, rfl⟩
abbrev main_v479 : Ref sig .tc := ⟨.hbm, 707, rfl⟩
abbrev main_c_142 : Ref sig .tc := ⟨.hbm, 708, rfl⟩
abbrev main_v480 : Ref sig .tc := ⟨.hbm, 709, rfl⟩
abbrev main_v481 : Ref sig .tc := ⟨.hbm, 710, rfl⟩
abbrev main_v482 : Ref sig .tc := ⟨.hbm, 711, rfl⟩
abbrev main_v483 : Ref sig .tc := ⟨.hbm, 712, rfl⟩
abbrev main_v484 : Ref sig .tc := ⟨.hbm, 713, rfl⟩
abbrev main_v485 : Ref sig .tc := ⟨.hbm, 714, rfl⟩
abbrev main_v486 : Ref sig .tc := ⟨.hbm, 715, rfl⟩
abbrev main_v487 : Ref sig .tc := ⟨.hbm, 716, rfl⟩
abbrev main_v488 : Ref sig .tc := ⟨.hbm, 717, rfl⟩
abbrev main_cst_143 : Ref sig .tc := ⟨.hbm, 718, rfl⟩
abbrev main_v489 : Ref sig .tc := ⟨.hbm, 719, rfl⟩
abbrev main_v490 : Ref sig .tc := ⟨.hbm, 720, rfl⟩
abbrev main_v491 : Ref sig .tc := ⟨.hbm, 721, rfl⟩
abbrev main_v492 : Ref sig .tc := ⟨.hbm, 722, rfl⟩
abbrev main_v493 : Ref sig .tc := ⟨.hbm, 723, rfl⟩
abbrev main_v494 : Ref sig .tc := ⟨.hbm, 724, rfl⟩
abbrev main_v495 : Ref sig .tc := ⟨.hbm, 725, rfl⟩
abbrev main_v496 : Ref sig .tc := ⟨.hbm, 726, rfl⟩
abbrev main_v497 : Ref sig .tc := ⟨.hbm, 727, rfl⟩
abbrev main_cst_144 : Ref sig .tc := ⟨.hbm, 728, rfl⟩
abbrev main_v498 : Ref sig .tc := ⟨.hbm, 729, rfl⟩
abbrev main_v499 : Ref sig .tc := ⟨.hbm, 730, rfl⟩
abbrev main_v500 : Ref sig .tc := ⟨.hbm, 731, rfl⟩
abbrev main_v501 : Ref sig .tc := ⟨.hbm, 732, rfl⟩
abbrev main_v502 : Ref sig .tc := ⟨.hbm, 733, rfl⟩
abbrev main_v503 : Ref sig .tc := ⟨.hbm, 734, rfl⟩
abbrev main_v504 : Ref sig .tc := ⟨.hbm, 735, rfl⟩
abbrev main_v505 : Ref sig .tc := ⟨.hbm, 736, rfl⟩
abbrev main_v506 : Ref sig .tc := ⟨.hbm, 737, rfl⟩
abbrev main_cst_145 : Ref sig .tc := ⟨.hbm, 738, rfl⟩
abbrev main_v507 : Ref sig .tc := ⟨.hbm, 739, rfl⟩
abbrev main_v508 : Ref sig .tc := ⟨.hbm, 740, rfl⟩
abbrev main_v509 : Ref sig .tc := ⟨.hbm, 741, rfl⟩
abbrev main_v510 : Ref sig .tc := ⟨.hbm, 742, rfl⟩
abbrev main_v511 : Ref sig .tc := ⟨.hbm, 743, rfl⟩
abbrev main_v512 : Ref sig .tc := ⟨.hbm, 744, rfl⟩
abbrev main_v513 : Ref sig .tc := ⟨.hbm, 745, rfl⟩
abbrev main_v514 : Ref sig .tc := ⟨.hbm, 746, rfl⟩
abbrev main_v515 : Ref sig .tc := ⟨.hbm, 747, rfl⟩
abbrev main_v516 : Ref sig .tc := ⟨.hbm, 748, rfl⟩

abbrev nD : Nat := 1
abbrev τ : Topo := Topo.v7x

variable {F : FTy → Type} [FloatOps F]
-- ==== Proof.KernelIdealFrame.lean ====
/- The frame of the idealised kernel: what each of its two regions leaves in its arrays, the run through the host operations and the
   regions, and that every argument ends as it was launched. It follows the generated frame module; the bodies' runs
   rewrite the printed parts by definitional unfolding. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle (`View.cover_of_tiled`) recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__pool_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S1x96x64x64 .f32 := (Memref.whole cc0_stg2_0 : Memref sig .tc .vmem S1x96x64x64 .f32).view
/-- Each window's current staging memref at point `t`, spelled as the pipeline passes it (`bodyAt0`), and its wholeness. -/
abbrev ms0_0 (t : Fin cfg0.N) : Memref sig .tc .vmem S1x96x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x96x64x64 .f32 := win0_2.stage (cfg0.slots t 2)
abbrev hs0_2 (t : Fin cfg0.N) : (ms0_2 t).IsWhole := hstage0_2 ((cfg0.slots t 2).cast nbuf0_2)

-- (the run's proof term is large)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x96x128x128 .f32) (harg1 : arg1.IsWhole) (arg2 : Memref sig .tc .vmem S128x64 .f32) (harg2 : arg2.IsWhole) (arg3 : Memref sig .tc .vmem S1x96x64x64 .f32) (harg3 : arg3.IsWhole)
    (x0 : Vec F S1x96x128x128 .f32) (x1 : Vec F S128x64 .f32) :
    { L2 : List (View.Piece (Elt F) S1x96x64x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__pool_body i arg1 harg1 arg2 harg2 arg3 harg3) K } := by
  refine ⟨?_, fun E K => ?run⟩
  case run =>
    simp only [cc0__pool_body_eq_skeleton]; unfold cc0__pool_body_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (1 store of `S1x96x64x64`, checked by the kernel's evaluation: Lib/Ring.lean `Piece.tiledL`, linear in the pieces, through a loop's `@[irreducible]` trip theorem too), so they cover it. -/
theorem cover0_A_2 (c : Dev nD) (i : grid0.Coords) (arg1 : Memref sig .tc .vmem S1x96x128x128 .f32) (harg1 : arg1.IsWhole) (arg2 : Memref sig .tc .vmem S128x64 .f32) (harg2 : arg2.IsWhole) (arg3 : Memref sig .tc .vmem S1x96x64x64 .f32) (harg3 : arg3.IsWhole)
    (x0 : Vec F S1x96x128x128 .f32) (x1 : Vec F S128x64 .f32) (y : S1x96x64x64.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S1x96x64x64.size (by sl_kernel_rfl) y

/-- What the run leaves in output 2's staging buffer: its pieces read back over junk. -/
def out0_A_2 (c : Dev nD) (i : grid0.Coords) (arg1 : Memref sig .tc .vmem S1x96x128x128 .f32) (harg1 : arg1.IsWhole) (arg2 : Memref sig .tc .vmem S128x64 .f32) (harg2 : arg2.IsWhole) (arg3 : Memref sig .tc .vmem S1x96x64x64 .f32) (harg3 : arg3.IsWhole)
    (x0 : Vec F S1x96x128x128 .f32) (x1 : Vec F S128x64 .f32) : Vec F S1x96x64x64 .f32 :=
  VO0_2.read (Elt F) (VO0_2.writes (Elt F) VO0_2.junk (kernelRun0_A c i arg1 harg1 arg2 harg2 arg3 harg3 x0 x1).1)

/-! ## What the outputs hold after each point -/

/-- What the outputs' staging buffers hold after the body at point `t`: the run's contents at
    the point's memrefs and input blocks. -/
def outsAt0 (c : Dev nD) (t : Fin cfg0.N) : Vec F S1x96x64x64 .f32 :=
  out0_A_2 c (grid0.coords t) (ms0_0 t) (hs0_0 t) (ms0_1 t) (hs0_1 t) (ms0_2 t) (hs0_2 t) (iblk0 V c 0 t) (iblk0 V c 1 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 4) — by arithmetic of the point. -/
theorem hcond1_0 : ∀ t : Fin cfg1.N, cond1_0 (grid1.coords t) ↔ t.val % 4 = 0 :=
  (fun t => by
    have ht : t.val < 16 := Nat.lt_of_lt_of_eq t.isLt N_1
    have e0 : (grid1.coords t 0).val = t.val / 4 % 4 := Pipeline.Grid.coords_val t 0 (by decide) rfl
    have e1 : (grid1.coords t 1).val = t.val / 1 % 4 := Pipeline.Grid.coords_val t 1 (by decide) rfl
    simp only [cond1_0, e0, e1]
    word_cmp
   : ∀ t : Fin grid1.N, cond1_0 (grid1.coords t) ↔ t.val % 4 = 0)

/-- The condition of the body's `scf.if` 1 (`k1_h2`), from the grid coordinates (the skeleton's scalar
    chain substituted). -/
abbrev cond1_1 (i : grid1.Coords) : Prop := (Scalar.cmpi .ne (Scalar.extui (Scalar.cmpi .eq (BitVec.ofNat 32 (i 1).val) 1#32)) 0#32) = 1#1
/-- It holds at the points ≡ 1 (mod 4) — by arithmetic of the point. -/
theorem hcond1_1 : ∀ t : Fin cfg1.N, cond1_1 (grid1.coords t) ↔ t.val % 4 = 1 :=
  (fun t => by
    have ht : t.val < 16 := Nat.lt_of_lt_of_eq t.isLt N_1
    have e0 : (grid1.coords t 0).val = t.val / 4 % 4 := Pipeline.Grid.coords_val t 0 (by decide) rfl
    have e1 : (grid1.coords t 1).val = t.val / 1 % 4 := Pipeline.Grid.coords_val t 1 (by decide) rfl
    simp only [cond1_1, e0, e1]
    word_cmp
   : ∀ t : Fin grid1.N, cond1_1 (grid1.coords t) ↔ t.val % 4 = 1)

/-- The condition of the body's `scf.if` 2 (`k1_h3`), from the grid coordinates (the skeleton's scalar
    chain substituted). -/
abbrev cond1_2 (i : grid1.Coords) : Prop := (Scalar.cmpi .ne (Scalar.extui (Scalar.cmpi .eq (BitVec.ofNat 32 (i 1).val) 2#32)) 0#32) = 1#1
/-- It holds at the points ≡ 2 (mod 4) — by arithmetic of the point. -/
theorem hcond1_2 : ∀ t : Fin cfg1.N, cond1_2 (grid1.coords t) ↔ t.val % 4 = 2 :=
  (fun t => by
    have ht : t.val < 16 := Nat.lt_of_lt_of_eq t.isLt N_1
    have e0 : (grid1.coords t 0).val = t.val / 4 % 4 := Pipeline.Grid.coords_val t 0 (by decide) rfl
    have e1 : (grid1.coords t 1).val = t.val / 1 % 4 := Pipeline.Grid.coords_val t 1 (by decide) rfl
    simp only [cond1_2, e0, e1]
    word_cmp
   : ∀ t : Fin grid1.N, cond1_2 (grid1.coords t) ↔ t.val % 4 = 2)

/-- The condition of the body's `scf.if` 3 (`k1_h4`), from the grid coordinates (the skeleton's scalar
    chain substituted). -/
abbrev cond1_3 (i : grid1.Coords) : Prop := (Scalar.cmpi .ne (Scalar.extui (Scalar.cmpi .eq (BitVec.ofNat 32 (i 1).val) 3#32)) 0#32) = 1#1
/-- It holds at the points ≡ 3 (mod 4) — by arithmetic of the point. -/
theorem hcond1_3 : ∀ t : Fin cfg1.N, cond1_3 (grid1.coords t) ↔ t.val % 4 = 3 :=
  (fun t => by
    have ht : t.val < 16 := Nat.lt_of_lt_of_eq t.isLt N_1
    have e0 : (grid1.coords t 0).val = t.val / 4 % 4 := Pipeline.Grid.coords_val t 0 (by decide) rfl
    have e1 : (grid1.coords t 1).val = t.val / 1 % 4 := Pipeline.Grid.coords_val t 1 (by decide) rfl
    simp only [cond1_3, e0, e1]
    word_cmp
   : ∀ t : Fin grid1.N, cond1_3 (grid1.coords t) ↔ t.val % 4 = 3)

/-- The condition of the body's `scf.if` 4 (`k1_h5`), from the grid coordinates (the skeleton's scalar
    chain substituted). -/
abbrev cond1_4 (i : grid1.Coords) : Prop := (Scalar.cmpi .ne (Scalar.extui (Scalar.cmpi .eq (BitVec.ofNat 32 (i 1).val) 0#32)) 0#32) = 1#1
/-- It holds at the points ≡ 0 (mod 4) — by arithmetic of the point. -/
theorem hcond1_4 : ∀ t : Fin cfg1.N, cond1_4 (grid1.coords t) ↔ t.val % 4 = 0 :=
  (fun t => by
    have ht : t.val < 16 := Nat.lt_of_lt_of_eq t.isLt N_1
    have e0 : (grid1.coords t 0).val = t.val / 4 % 4 := Pipeline.Grid.coords_val t 0 (by decide) rfl
    have e1 : (grid1.coords t 1).val = t.val / 1 % 4 := Pipeline.Grid.coords_val t 1 (by decide) rfl
    simp only [cond1_4, e0, e1]
    word_cmp
   : ∀ t : Fin grid1.N, cond1_4 (grid1.coords t) ↔ t.val % 4 = 0)

/-- The condition of the body's `scf.if` 5 (`k1_h6`), from the grid coordinates (the skeleton's scalar
    chain substituted). -/
abbrev cond1_5 (i : grid1.Coords) : Prop := (Scalar.cmpi .ne (Scalar.extui (Scalar.cmpi .eq (BitVec.ofNat 32 (i 1).val) 1#32)) 0#32) = 1#1
/-- It holds at the points ≡ 1 (mod 4) — by arithmetic of the point. -/
theorem hcond1_5 : ∀ t : Fin cfg1.N, cond1_5 (grid1.coords t) ↔ t.val % 4 = 1 :=
  (fun t => by
    have ht : t.val < 16 := Nat.lt_of_lt_of_eq t.isLt N_1
    have e0 : (grid1.coords t 0).val = t.val / 4 % 4 := Pipeline.Grid.coords_val t 0 (by decide) rfl
    have e1 : (grid1.coords t 1).val = t.val / 1 % 4 := Pipeline.Grid.coords_val t 1 (by decide) rfl
    simp only [cond1_5, e0, e1]
    word_cmp
   : ∀ t : Fin grid1.N, cond1_5 (grid1.coords t) ↔ t.val % 4 = 1)

/-- The condition of the body's `scf.if` 6 (`k1_h7`), from the grid coordinates (the skeleton's scalar
    chain substituted). -/
abbrev cond1_6 (i : grid1.Coords) : Prop := (Scalar.cmpi .ne (Scalar.extui (Scalar.cmpi .eq (BitVec.ofNat 32 (i 1).val) 2#32)) 0#32) = 1#1
/-- It holds at the points ≡ 2 (mod 4) — by arithmetic of the point. -/
theorem hcond1_6 : ∀ t : Fin cfg1.N, cond1_6 (grid1.coords t) ↔ t.val % 4 = 2 :=
  (fun t => by
    have ht : t.val < 16 := Nat.lt_of_lt_of_eq t.isLt N_1
    have e0 : (grid1.coords t 0).val = t.val / 4 % 4 := Pipeline.Grid.coords_val t 0 (by decide) rfl
    have e1 : (grid1.coords t 1).val = t.val / 1 % 4 := Pipeline.Grid.coords_val t 1 (by decide) rfl
    simp only [cond1_6, e0, e1]
    word_cmp
   : ∀ t : Fin grid1.N, cond1_6 (grid1.coords t) ↔ t.val % 4 = 2)

/-- The condition of the body's `scf.if` 7 (`k1_h8`), from the grid coordinates (the skeleton's scalar
    chain substituted). -/
abbrev cond1_7 (i : grid1.Coords) : Prop := (Scalar.cmpi .ne (Scalar.extui (Scalar.cmpi .eq (BitVec.ofNat 32 (i 1).val) 3#32)) 0#32) = 1#1
/-- It holds at the points ≡ 3 (mod 4) — by arithmetic of the point. -/
theorem hcond1_7 : ∀ t : Fin cfg1.N, cond1_7 (grid1.coords t) ↔ t.val % 4 = 3 :=
  (fun t => by
    have ht : t.val < 16 := Nat.lt_of_lt_of_eq t.isLt N_1
    have e0 : (grid1.coords t 0).val = t.val / 4 % 4 := Pipeline.Grid.coords_val t 0 (by decide) rfl
    have e1 : (grid1.coords t 1).val = t.val / 1 % 4 := Pipeline.Grid.coords_val t 1 (by decide) rfl
    simp only [cond1_7, e0, e1]
    word_cmp
   : ∀ t : Fin grid1.N, cond1_7 (grid1.coords t) ↔ t.val % 4 = 3)

/-! ## The kernel body on any staging memrefs: a subtype the run finds -/

/-- One staging buffer of output window 4, through which its contents are stated (`View.read_writes_of_cover`: the
    choice does not matter). -/
abbrev VO1_4 : View sig .tc .vmem S1x16x64x1440 .f32 := (Memref.whole cc1_stg4_0 : Memref sig .tc .vmem S1x16x64x1440 .f32).view
/-- Each window's current staging memref at point `t`, spelled as the pipeline passes it (`bodyAt1`), and its wholeness. -/
abbrev ms1_0 (t : Fin cfg1.N) : Memref sig .tc .vmem S1x16x64x96 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x64x192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32x32x384 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x16x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16x64x1440 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S16x64x128 .f32 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large)
set_option maxHeartbeats 1916000 in set_option sl_exec.stridedRows true in
/-- What the body's stores leave in each output's staging memref, as pieces (last first) IN CASE A (`scf.if` 0 taken, `scf.if` 1 not taken, `scf.if` 2 not taken, `scf.if` 3 not taken, `scf.if` 4 taken, `scf.if` 5 not taken, `scf.if` 6 not taken, `scf.if` 7 not taken: points 0, 4, 8, 12), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : cond1_0 i) (hc1 : ¬cond1_1 i) (hc2 : ¬cond1_2 i) (hc3 : ¬cond1_3 i) (hc4 : cond1_4 i) (hc5 : ¬cond1_5 i) (hc6 : ¬cond1_6 i) (hc7 : ¬cond1_7 i)
    (x0 : Vec F S1x16x64x96 .f32) (x1 : Vec F S1x16x64x192 .f32) (x2 : Vec F S1x32x32x384 .f32) (x3 : Vec F S1x16x16x768 .f32) :
    { L4 : List (View.Piece (Elt F) S1x16x64x1440 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d)) -∗ K ⟨⟩))
          ⊢ wp frame (wpE (defs₀ (F := F)) Variants.none c none) E (cc1__body i arg2 harg2 arg3 harg3 arg4 harg4 arg5 harg5 arg6 harg6 arg7 harg7) K } := by
  refine ⟨?_, fun E K => ?run⟩
  case run =>
    simp only [cc1__body_eq_skeleton]; unfold cc1__body_skel
    dsimp only [k1_part137_eq_skeleton, k1_part1_eq_skeleton, k1_part2_eq_skeleton, k1_part3_eq_skeleton, k1_part4_eq_skeleton, k1_part5_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _, _; isplitr; swap; · iexact HS0
    ipureintro; rfl

/-- Case A's pieces for output 4 are of SEVERAL sizes (11 stores of `S1x16x64x128`, `S1x16x64x192`, `S1x16x64x96`): cut into blocks of `![1, 16, 64, 32]` they tile its block (checked by the kernel's evaluation: Lib/Ring.lean `Piece.tiledBy`), so they cover it. -/
theorem cover1_A_4 (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : cond1_0 i) (hc1 : ¬cond1_1 i) (hc2 : ¬cond1_2 i) (hc3 : ¬cond1_3 i) (hc4 : cond1_4 i) (hc5 : ¬cond1_5 i) (hc6 : ¬cond1_6 i) (hc7 : ¬cond1_7 i)
    (x0 : Vec F S1x16x64x96 .f32) (x1 : Vec F S1x16x64x192 .f32) (x2 : Vec F S1x32x32x384 .f32) (x3 : Vec F S1x16x16x768 .f32) (y : S1x16x64x1440.Idx) :
    ∃ pc ∈ (kernelRun1_A c i arg2 harg2 arg3 harg3 arg4 harg4 arg5 harg5 arg6 harg6 arg7 harg7 hc0 hc1 hc2 hc3 hc4 hc5 hc6 hc7 x0 x1 x2 x3).1, y ∈ pc.1.set :=
  View.cover_of_tiledBy (kernelRun1_A c i arg2 harg2 arg3 harg3 arg4 harg4 arg5 harg5 arg6 harg6 arg7 harg7 hc0 hc1 hc2 hc3 hc4 hc5 hc6 hc7 x0 x1 x2 x3).1 ![1, 16, 64, 32] (by sl_kernel_rfl) y

/-- What case A leaves in output 4's staging buffer: its pieces read back over junk. -/
def out1_A_4 (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : cond1_0 i) (hc1 : ¬cond1_1 i) (hc2 : ¬cond1_2 i) (hc3 : ¬cond1_3 i) (hc4 : cond1_4 i) (hc5 : ¬cond1_5 i) (hc6 : ¬cond1_6 i) (hc7 : ¬cond1_7 i)
    (x0 : Vec F S1x16x64x96 .f32) (x1 : Vec F S1x16x64x192 .f32) (x2 : Vec F S1x32x32x384 .f32) (x3 : Vec F S1x16x16x768 .f32) : Vec F S1x16x64x1440 .f32 :=
  VO1_4.read (Elt F) (VO1_4.writes (Elt F) VO1_4.junk (kernelRun1_A c i arg2 harg2 arg3 harg3 arg4 harg4 arg5 harg5 arg6 harg6 arg7 harg7 hc0 hc1 hc2 hc3 hc4 hc5 hc6 hc7 x0 x1 x2 x3).1)

-- (the run's proof term is large)
set_option maxHeartbeats 1920000 in set_option sl_exec.stridedRows true in
/-- What the body's stores leave in each output's staging memref, as pieces (last first) IN CASE B (`scf.if` 0 not taken, `scf.if` 1 taken, `scf.if` 2 not taken, `scf.if` 3 not taken, `scf.if` 4 not taken, `scf.if` 5 taken, `scf.if` 6 not taken, `scf.if` 7 not taken: points 1, 5, 9, 13), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : cond1_1 i) (hc2 : ¬cond1_2 i) (hc3 : ¬cond1_3 i) (hc4 : ¬cond1_4 i) (hc5 : cond1_5 i) (hc6 : ¬cond1_6 i) (hc7 : ¬cond1_7 i)
    (x0 : Vec F S1x16x64x96 .f32) (x1 : Vec F S1x16x64x192 .f32) (x2 : Vec F S1x32x32x384 .f32) (x3 : Vec F S1x16x16x768 .f32) :
    { L4 : List (View.Piece (Elt F) S1x16x64x1440 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d)) -∗ K ⟨⟩))
          ⊢ wp frame (wpE (defs₀ (F := F)) Variants.none c none) E (cc1__body i arg2 harg2 arg3 harg3 arg4 harg4 arg5 harg5 arg6 harg6 arg7 harg7) K } := by
  refine ⟨?_, fun E K => ?run⟩
  case run =>
    simp only [cc1__body_eq_skeleton]; unfold cc1__body_skel
    dsimp only [k1_part137_eq_skeleton, k1_part6_eq_skeleton, k1_part7_eq_skeleton, k1_part8_eq_skeleton, k1_part9_eq_skeleton, k1_part10_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _, _; isplitr; swap; · iexact HS0
    ipureintro; rfl

/-- Case B's pieces for output 4 are of SEVERAL sizes (11 stores of `S1x16x64x128`, `S1x16x64x192`, `S1x16x64x96`): cut into blocks of `![1, 16, 64, 32]` they tile its block (checked by the kernel's evaluation: Lib/Ring.lean `Piece.tiledBy`), so they cover it. -/
theorem cover1_B_4 (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : cond1_1 i) (hc2 : ¬cond1_2 i) (hc3 : ¬cond1_3 i) (hc4 : ¬cond1_4 i) (hc5 : cond1_5 i) (hc6 : ¬cond1_6 i) (hc7 : ¬cond1_7 i)
    (x0 : Vec F S1x16x64x96 .f32) (x1 : Vec F S1x16x64x192 .f32) (x2 : Vec F S1x32x32x384 .f32) (x3 : Vec F S1x16x16x768 .f32) (y : S1x16x64x1440.Idx) :
    ∃ pc ∈ (kernelRun1_B c i arg2 harg2 arg3 harg3 arg4 harg4 arg5 harg5 arg6 harg6 arg7 harg7 hc0 hc1 hc2 hc3 hc4 hc5 hc6 hc7 x0 x1 x2 x3).1, y ∈ pc.1.set :=
  View.cover_of_tiledBy (kernelRun1_B c i arg2 harg2 arg3 harg3 arg4 harg4 arg5 harg5 arg6 harg6 arg7 harg7 hc0 hc1 hc2 hc3 hc4 hc5 hc6 hc7 x0 x1 x2 x3).1 ![1, 16, 64, 32] (by sl_kernel_rfl) y

/-- What case B leaves in output 4's staging buffer: its pieces read back over junk. -/
def out1_B_4 (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : cond1_1 i) (hc2 : ¬cond1_2 i) (hc3 : ¬cond1_3 i) (hc4 : ¬cond1_4 i) (hc5 : cond1_5 i) (hc6 : ¬cond1_6 i) (hc7 : ¬cond1_7 i)
    (x0 : Vec F S1x16x64x96 .f32) (x1 : Vec F S1x16x64x192 .f32) (x2 : Vec F S1x32x32x384 .f32) (x3 : Vec F S1x16x16x768 .f32) : Vec F S1x16x64x1440 .f32 :=
  VO1_4.read (Elt F) (VO1_4.writes (Elt F) VO1_4.junk (kernelRun1_B c i arg2 harg2 arg3 harg3 arg4 harg4 arg5 harg5 arg6 harg6 arg7 harg7 hc0 hc1 hc2 hc3 hc4 hc5 hc6 hc7 x0 x1 x2 x3).1)

-- (the run's proof term is large)
set_option maxHeartbeats 1920000 in set_option sl_exec.stridedRows true in
/-- What the body's stores leave in each output's staging memref, as pieces (last first) IN CASE C (`scf.if` 0 not taken, `scf.if` 1 not taken, `scf.if` 2 taken, `scf.if` 3 not taken, `scf.if` 4 not taken, `scf.if` 5 not taken, `scf.if` 6 taken, `scf.if` 7 not taken: points 2, 6, 10, 14), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : ¬cond1_1 i) (hc2 : cond1_2 i) (hc3 : ¬cond1_3 i) (hc4 : ¬cond1_4 i) (hc5 : ¬cond1_5 i) (hc6 : cond1_6 i) (hc7 : ¬cond1_7 i)
    (x0 : Vec F S1x16x64x96 .f32) (x1 : Vec F S1x16x64x192 .f32) (x2 : Vec F S1x32x32x384 .f32) (x3 : Vec F S1x16x16x768 .f32) :
    { L4 : List (View.Piece (Elt F) S1x16x64x1440 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d)) -∗ K ⟨⟩))
          ⊢ wp frame (wpE (defs₀ (F := F)) Variants.none c none) E (cc1__body i arg2 harg2 arg3 harg3 arg4 harg4 arg5 harg5 arg6 harg6 arg7 harg7) K } := by
  refine ⟨?_, fun E K => ?run⟩
  case run =>
    simp only [cc1__body_eq_skeleton]; unfold cc1__body_skel
    dsimp only [k1_part137_eq_skeleton, k1_part11_eq_skeleton, k1_part12_eq_skeleton, k1_part13_eq_skeleton, k1_part14_eq_skeleton, k1_part15_eq_skeleton, k1_part79_eq_skeleton, k1_part80_eq_skeleton, k1_part81_eq_skeleton, k1_part82_eq_skeleton, k1_part83_eq_skeleton, k1_part84_eq_skeleton, k1_part85_eq_skeleton, k1_part86_eq_skeleton, k1_part87_eq_skeleton, k1_part88_eq_skeleton, k1_part89_eq_skeleton, k1_part90_eq_skeleton, k1_part91_eq_skeleton, k1_part92_eq_skeleton, k1_part93_eq_skeleton, k1_part94_eq_skeleton, k1_part95_eq_skeleton, k1_part96_eq_skeleton, k1_part97_eq_skeleton, k1_part98_eq_skeleton, k1_part99_eq_skeleton, k1_part100_eq_skeleton, k1_part101_eq_skeleton, k1_part102_eq_skeleton, k1_part103_eq_skeleton, k1_part104_eq_skeleton, k1_part105_eq_skeleton, k1_part106_eq_skeleton, k1_part107_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _, _; isplitr; swap; · iexact HS0
    ipureintro; rfl

/-- Case C's pieces for output 4 are of SEVERAL sizes (11 stores of `S1x16x64x128`, `S1x16x64x192`, `S1x16x64x96`): cut into blocks of `![1, 16, 64, 32]` they tile its block (checked by the kernel's evaluation: Lib/Ring.lean `Piece.tiledBy`), so they cover it. -/
theorem cover1_C_4 (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : ¬cond1_1 i) (hc2 : cond1_2 i) (hc3 : ¬cond1_3 i) (hc4 : ¬cond1_4 i) (hc5 : ¬cond1_5 i) (hc6 : cond1_6 i) (hc7 : ¬cond1_7 i)
    (x0 : Vec F S1x16x64x96 .f32) (x1 : Vec F S1x16x64x192 .f32) (x2 : Vec F S1x32x32x384 .f32) (x3 : Vec F S1x16x16x768 .f32) (y : S1x16x64x1440.Idx) :
    ∃ pc ∈ (kernelRun1_C c i arg2 harg2 arg3 harg3 arg4 harg4 arg5 harg5 arg6 harg6 arg7 harg7 hc0 hc1 hc2 hc3 hc4 hc5 hc6 hc7 x0 x1 x2 x3).1, y ∈ pc.1.set :=
  View.cover_of_tiledBy (kernelRun1_C c i arg2 harg2 arg3 harg3 arg4 harg4 arg5 harg5 arg6 harg6 arg7 harg7 hc0 hc1 hc2 hc3 hc4 hc5 hc6 hc7 x0 x1 x2 x3).1 ![1, 16, 64, 32] (by sl_kernel_rfl) y

/-- What case C leaves in output 4's staging buffer: its pieces read back over junk. -/
def out1_C_4 (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : ¬cond1_1 i) (hc2 : cond1_2 i) (hc3 : ¬cond1_3 i) (hc4 : ¬cond1_4 i) (hc5 : ¬cond1_5 i) (hc6 : cond1_6 i) (hc7 : ¬cond1_7 i)
    (x0 : Vec F S1x16x64x96 .f32) (x1 : Vec F S1x16x64x192 .f32) (x2 : Vec F S1x32x32x384 .f32) (x3 : Vec F S1x16x16x768 .f32) : Vec F S1x16x64x1440 .f32 :=
  VO1_4.read (Elt F) (VO1_4.writes (Elt F) VO1_4.junk (kernelRun1_C c i arg2 harg2 arg3 harg3 arg4 harg4 arg5 harg5 arg6 harg6 arg7 harg7 hc0 hc1 hc2 hc3 hc4 hc5 hc6 hc7 x0 x1 x2 x3).1)

-- (the run's proof term is large)
set_option maxHeartbeats 1916000 in set_option sl_exec.stridedRows true in
/-- What the body's stores leave in each output's staging memref, as pieces (last first) IN CASE D (`scf.if` 0 not taken, `scf.if` 1 not taken, `scf.if` 2 not taken, `scf.if` 3 taken, `scf.if` 4 not taken, `scf.if` 5 not taken, `scf.if` 6 not taken, `scf.if` 7 taken: points 3, 7, 11, 15), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_D (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : ¬cond1_1 i) (hc2 : ¬cond1_2 i) (hc3 : cond1_3 i) (hc4 : ¬cond1_4 i) (hc5 : ¬cond1_5 i) (hc6 : ¬cond1_6 i) (hc7 : cond1_7 i)
    (x0 : Vec F S1x16x64x96 .f32) (x1 : Vec F S1x16x64x192 .f32) (x2 : Vec F S1x32x32x384 .f32) (x3 : Vec F S1x16x16x768 .f32) :
    { L4 : List (View.Piece (Elt F) S1x16x64x1440 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d)) -∗ K ⟨⟩))
          ⊢ wp frame (wpE (defs₀ (F := F)) Variants.none c none) E (cc1__body i arg2 harg2 arg3 harg3 arg4 harg4 arg5 harg5 arg6 harg6 arg7 harg7) K } := by
  refine ⟨?_, fun E K => ?run⟩
  case run =>
    simp only [cc1__body_eq_skeleton]; unfold cc1__body_skel
    dsimp only [k1_part137_eq_skeleton, k1_part16_eq_skeleton, k1_part17_eq_skeleton, k1_part18_eq_skeleton, k1_part19_eq_skeleton, k1_part20_eq_skeleton, k1_part108_eq_skeleton, k1_part109_eq_skeleton, k1_part110_eq_skeleton, k1_part111_eq_skeleton, k1_part112_eq_skeleton, k1_part113_eq_skeleton, k1_part114_eq_skeleton, k1_part115_eq_skeleton, k1_part116_eq_skeleton, k1_part117_eq_skeleton, k1_part118_eq_skeleton, k1_part119_eq_skeleton, k1_part120_eq_skeleton, k1_part121_eq_skeleton, k1_part122_eq_skeleton, k1_part123_eq_skeleton, k1_part124_eq_skeleton, k1_part125_eq_skeleton, k1_part126_eq_skeleton, k1_part127_eq_skeleton, k1_part128_eq_skeleton, k1_part129_eq_skeleton, k1_part130_eq_skeleton, k1_part131_eq_skeleton, k1_part132_eq_skeleton, k1_part133_eq_skeleton, k1_part134_eq_skeleton, k1_part135_eq_skeleton, k1_part136_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _, _; isplitr; swap; · iexact HS0
    ipureintro; rfl

/-- Case D's pieces for output 4 are of SEVERAL sizes (11 stores of `S1x16x64x128`, `S1x16x64x192`, `S1x16x64x96`): cut into blocks of `![1, 16, 64, 32]` they tile its block (checked by the kernel's evaluation: Lib/Ring.lean `Piece.tiledBy`), so they cover it. -/
theorem cover1_D_4 (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : ¬cond1_1 i) (hc2 : ¬cond1_2 i) (hc3 : cond1_3 i) (hc4 : ¬cond1_4 i) (hc5 : ¬cond1_5 i) (hc6 : ¬cond1_6 i) (hc7 : cond1_7 i)
    (x0 : Vec F S1x16x64x96 .f32) (x1 : Vec F S1x16x64x192 .f32) (x2 : Vec F S1x32x32x384 .f32) (x3 : Vec F S1x16x16x768 .f32) (y : S1x16x64x1440.Idx) :
    ∃ pc ∈ (kernelRun1_D c i arg2 harg2 arg3 harg3 arg4 harg4 arg5 harg5 arg6 harg6 arg7 harg7 hc0 hc1 hc2 hc3 hc4 hc5 hc6 hc7 x0 x1 x2 x3).1, y ∈ pc.1.set :=
  View.cover_of_tiledBy (kernelRun1_D c i arg2 harg2 arg3 harg3 arg4 harg4 arg5 harg5 arg6 harg6 arg7 harg7 hc0 hc1 hc2 hc3 hc4 hc5 hc6 hc7 x0 x1 x2 x3).1 ![1, 16, 64, 32] (by sl_kernel_rfl) y

/-- What case D leaves in output 4's staging buffer: its pieces read back over junk. -/
def out1_D_4 (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : ¬cond1_1 i) (hc2 : ¬cond1_2 i) (hc3 : cond1_3 i) (hc4 : ¬cond1_4 i) (hc5 : ¬cond1_5 i) (hc6 : ¬cond1_6 i) (hc7 : cond1_7 i)
    (x0 : Vec F S1x16x64x96 .f32) (x1 : Vec F S1x16x64x192 .f32) (x2 : Vec F S1x32x32x384 .f32) (x3 : Vec F S1x16x16x768 .f32) : Vec F S1x16x64x1440 .f32 :=
  VO1_4.read (Elt F) (VO1_4.writes (Elt F) VO1_4.junk (kernelRun1_D c i arg2 harg2 arg3 harg3 arg4 harg4 arg5 harg5 arg6 harg6 arg7 harg7 hc0 hc1 hc2 hc3 hc4 hc5 hc6 hc7 x0 x1 x2 x3).1)

/-! ## What the outputs hold after each point -/

/-- THE ACCUMULATION. What the outputs' staging buffers hold after the body at position `n`:
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x16x64x1440 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (fun h => (fun h => by (try dsimp only at h); omega) ((hcond1_3 ⟨0, hn⟩).mp h)) ((hcond1_4 ⟨0, hn⟩).mpr (Nat.zero_mod _)) (fun h => (fun h => by (try dsimp only at h); omega) ((hcond1_5 ⟨0, hn⟩).mp h)) (fun h => (fun h => by (try dsimp only at h); omega) ((hcond1_6 ⟨0, hn⟩).mp h)) (fun h => (fun h => by (try dsimp only at h); omega) ((hcond1_7 ⟨0, hn⟩).mp h)) (iblk1 V c 0 ⟨0, hn⟩) (iblk1 V c 1 ⟨0, hn⟩) (iblk1 V c 2 ⟨0, hn⟩) (iblk1 V c 3 ⟨0, hn⟩)
  | n + 1, hn =>
    if h0 : (n + 1) % 4 = 0 then
      if h1 : (n + 1) % 4 = 1 then
        False.elim (by have hN : n + 1 < 16 := lt_of_lt_of_eq hn (show cfg1.N = 16 from N_1); omega)
      else
        if h2 : (n + 1) % 4 = 2 then
          False.elim (by have hN : n + 1 < 16 := lt_of_lt_of_eq hn (show cfg1.N = 16 from N_1); omega)
        else
          if h3 : (n + 1) % 4 = 3 then
            False.elim (by have hN : n + 1 < 16 := lt_of_lt_of_eq hn (show cfg1.N = 16 from N_1); omega)
          else
            if h4 : (n + 1) % 4 = 0 then
              if h5 : (n + 1) % 4 = 1 then
                False.elim (by have hN : n + 1 < 16 := lt_of_lt_of_eq hn (show cfg1.N = 16 from N_1); omega)
              else
                if h6 : (n + 1) % 4 = 2 then
                  False.elim (by have hN : n + 1 < 16 := lt_of_lt_of_eq hn (show cfg1.N = 16 from N_1); omega)
                else
                  if h7 : (n + 1) % 4 = 3 then
                    False.elim (by have hN : n + 1 < 16 := lt_of_lt_of_eq hn (show cfg1.N = 16 from N_1); omega)
                  else
                    out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (fun h => h3 ((hcond1_3 ⟨n + 1, hn⟩).mp h)) ((hcond1_4 ⟨n + 1, hn⟩).mpr h4) (fun h => h5 ((hcond1_5 ⟨n + 1, hn⟩).mp h)) (fun h => h6 ((hcond1_6 ⟨n + 1, hn⟩).mp h)) (fun h => h7 ((hcond1_7 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
            else
              False.elim (by have hN : n + 1 < 16 := lt_of_lt_of_eq hn (show cfg1.N = 16 from N_1); omega)
    else
      if h1 : (n + 1) % 4 = 1 then
        if h2 : (n + 1) % 4 = 2 then
          False.elim (by have hN : n + 1 < 16 := lt_of_lt_of_eq hn (show cfg1.N = 16 from N_1); omega)
        else
          if h3 : (n + 1) % 4 = 3 then
            False.elim (by have hN : n + 1 < 16 := lt_of_lt_of_eq hn (show cfg1.N = 16 from N_1); omega)
          else
            if h4 : (n + 1) % 4 = 0 then
              False.elim (by have hN : n + 1 < 16 := lt_of_lt_of_eq hn (show cfg1.N = 16 from N_1); omega)
            else
              if h5 : (n + 1) % 4 = 1 then
                if h6 : (n + 1) % 4 = 2 then
                  False.elim (by have hN : n + 1 < 16 := lt_of_lt_of_eq hn (show cfg1.N = 16 from N_1); omega)
                else
                  if h7 : (n + 1) % 4 = 3 then
                    False.elim (by have hN : n + 1 < 16 := lt_of_lt_of_eq hn (show cfg1.N = 16 from N_1); omega)
                  else
                    out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (fun h => h3 ((hcond1_3 ⟨n + 1, hn⟩).mp h)) (fun h => h4 ((hcond1_4 ⟨n + 1, hn⟩).mp h)) ((hcond1_5 ⟨n + 1, hn⟩).mpr h5) (fun h => h6 ((hcond1_6 ⟨n + 1, hn⟩).mp h)) (fun h => h7 ((hcond1_7 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
              else
                False.elim (by have hN : n + 1 < 16 := lt_of_lt_of_eq hn (show cfg1.N = 16 from N_1); omega)
      else
        if h2 : (n + 1) % 4 = 2 then
          if h3 : (n + 1) % 4 = 3 then
            False.elim (by have hN : n + 1 < 16 := lt_of_lt_of_eq hn (show cfg1.N = 16 from N_1); omega)
          else
            if h4 : (n + 1) % 4 = 0 then
              False.elim (by have hN : n + 1 < 16 := lt_of_lt_of_eq hn (show cfg1.N = 16 from N_1); omega)
            else
              if h5 : (n + 1) % 4 = 1 then
                False.elim (by have hN : n + 1 < 16 := lt_of_lt_of_eq hn (show cfg1.N = 16 from N_1); omega)
              else
                if h6 : (n + 1) % 4 = 2 then
                  if h7 : (n + 1) % 4 = 3 then
                    False.elim (by have hN : n + 1 < 16 := lt_of_lt_of_eq hn (show cfg1.N = 16 from N_1); omega)
                  else
                    out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) ((hcond1_2 ⟨n + 1, hn⟩).mpr h2) (fun h => h3 ((hcond1_3 ⟨n + 1, hn⟩).mp h)) (fun h => h4 ((hcond1_4 ⟨n + 1, hn⟩).mp h)) (fun h => h5 ((hcond1_5 ⟨n + 1, hn⟩).mp h)) ((hcond1_6 ⟨n + 1, hn⟩).mpr h6) (fun h => h7 ((hcond1_7 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
                else
                  False.elim (by have hN : n + 1 < 16 := lt_of_lt_of_eq hn (show cfg1.N = 16 from N_1); omega)
        else
          if h3 : (n + 1) % 4 = 3 then
            if h4 : (n + 1) % 4 = 0 then
              False.elim (by have hN : n + 1 < 16 := lt_of_lt_of_eq hn (show cfg1.N = 16 from N_1); omega)
            else
              if h5 : (n + 1) % 4 = 1 then
                False.elim (by have hN : n + 1 < 16 := lt_of_lt_of_eq hn (show cfg1.N = 16 from N_1); omega)
              else
                if h6 : (n + 1) % 4 = 2 then
                  False.elim (by have hN : n + 1 < 16 := lt_of_lt_of_eq hn (show cfg1.N = 16 from N_1); omega)
                else
                  if h7 : (n + 1) % 4 = 3 then
                    out1_D_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) ((hcond1_3 ⟨n + 1, hn⟩).mpr h3) (fun h => h4 ((hcond1_4 ⟨n + 1, hn⟩).mp h)) (fun h => h5 ((hcond1_5 ⟨n + 1, hn⟩).mp h)) (fun h => h6 ((hcond1_6 ⟨n + 1, hn⟩).mp h)) ((hcond1_7 ⟨n + 1, hn⟩).mpr h7) (iblk1 V c 0 ⟨n + 1, hn⟩) (iblk1 V c 1 ⟨n + 1, hn⟩) (iblk1 V c 2 ⟨n + 1, hn⟩) (iblk1 V c 3 ⟨n + 1, hn⟩)
                  else
                    False.elim (by have hN : n + 1 < 16 := lt_of_lt_of_eq hn (show cfg1.N = 16 from N_1); omega)
          else
            False.elim (by have hN : n + 1 < 16 := lt_of_lt_of_eq hn (show cfg1.N = 16 from N_1); omega)

/-- `outsAt1` at a point of case A: that case's contents. -/
theorem outsAt1_A (c : Dev nD) (t : Fin cfg1.N) (h0 : t.val % 4 = 0) (h1 : ¬t.val % 4 = 1) (h2 : ¬t.val % 4 = 2) (h3 : ¬t.val % 4 = 3) (h4 : t.val % 4 = 0) (h5 : ¬t.val % 4 = 1) (h6 : ¬t.val % 4 = 2) (h7 : ¬t.val % 4 = 3) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (fun h => h2 ((hcond1_2 t).mp h)) (fun h => h3 ((hcond1_3 t).mp h)) ((hcond1_4 t).mpr h4) (fun h => h5 ((hcond1_5 t).mp h)) (fun h => h6 ((hcond1_6 t).mp h)) (fun h => h7 ((hcond1_7 t).mp h)) (iblk1 V c 0 t) (iblk1 V c 1 t) (iblk1 V c 2 t) (iblk1 V c 3 t) := by
  obtain ⟨n, hn⟩ := t
  cases n with
  | zero => exact rfl
  | succ n => exact (dif_pos h0).trans ((dif_neg h1).trans ((dif_neg h2).trans ((dif_neg h3).trans ((dif_pos h4).trans ((dif_neg h5).trans ((dif_neg h6).trans ((dif_neg h7).trans rfl)))))))

/-- `outsAt1` at a point of case B: that case's contents. -/
theorem outsAt1_B (c : Dev nD) (t : Fin cfg1.N) (h0 : ¬t.val % 4 = 0) (h1 : t.val % 4 = 1) (h2 : ¬t.val % 4 = 2) (h3 : ¬t.val % 4 = 3) (h4 : ¬t.val % 4 = 0) (h5 : t.val % 4 = 1) (h6 : ¬t.val % 4 = 2) (h7 : ¬t.val % 4 = 3) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (fun h => h2 ((hcond1_2 t).mp h)) (fun h => h3 ((hcond1_3 t).mp h)) (fun h => h4 ((hcond1_4 t).mp h)) ((hcond1_5 t).mpr h5) (fun h => h6 ((hcond1_6 t).mp h)) (fun h => h7 ((hcond1_7 t).mp h)) (iblk1 V c 0 t) (iblk1 V c 1 t) (iblk1 V c 2 t) (iblk1 V c 3 t) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans ((dif_pos h5).trans ((dif_neg h6).trans ((dif_neg h7).trans rfl)))))))

/-- `outsAt1` at a point of case C: that case's contents. -/
theorem outsAt1_C (c : Dev nD) (t : Fin cfg1.N) (h0 : ¬t.val % 4 = 0) (h1 : ¬t.val % 4 = 1) (h2 : t.val % 4 = 2) (h3 : ¬t.val % 4 = 3) (h4 : ¬t.val % 4 = 0) (h5 : ¬t.val % 4 = 1) (h6 : t.val % 4 = 2) (h7 : ¬t.val % 4 = 3) :
    outsAt1 V c t.val t.isLt = out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) ((hcond1_2 t).mpr h2) (fun h => h3 ((hcond1_3 t).mp h)) (fun h => h4 ((hcond1_4 t).mp h)) (fun h => h5 ((hcond1_5 t).mp h)) ((hcond1_6 t).mpr h6) (fun h => h7 ((hcond1_7 t).mp h)) (iblk1 V c 0 t) (iblk1 V c 1 t) (iblk1 V c 2 t) (iblk1 V c 3 t) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans ((dif_neg h5).trans ((dif_pos h6).trans ((dif_neg h7).trans rfl)))))))

/-- `outsAt1` at a point of case D: that case's contents. -/
theorem outsAt1_D (c : Dev nD) (t : Fin cfg1.N) (h0 : ¬t.val % 4 = 0) (h1 : ¬t.val % 4 = 1) (h2 : ¬t.val % 4 = 2) (h3 : t.val % 4 = 3) (h4 : ¬t.val % 4 = 0) (h5 : ¬t.val % 4 = 1) (h6 : ¬t.val % 4 = 2) (h7 : t.val % 4 = 3) :
    outsAt1 V c t.val t.isLt = out1_D_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (fun h => h2 ((hcond1_2 t).mp h)) ((hcond1_3 t).mpr h3) (fun h => h4 ((hcond1_4 t).mp h)) (fun h => h5 ((hcond1_5 t).mp h)) (fun h => h6 ((hcond1_6 t).mp h)) ((hcond1_7 t).mpr h7) (iblk1 V c 0 t) (iblk1 V c 1 t) (iblk1 V c 2 t) (iblk1 V c 3 t) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans ((dif_neg h5).trans ((dif_neg h6).trans ((dif_pos h7).trans rfl)))))))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks (`before1_W`); the closed forms say which case the point is in (`by_cases`), an output the case reads before covering holds what the point before left (`before1_W_κ`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  have hN : t.val < 16 := lt_of_lt_of_eq t.isLt (show cfg1.N = 16 from N_1)
  by_cases h0 : t.val % 4 = 0
  · by_cases h1 : t.val % 4 = 1
    · exfalso; omega
    · by_cases h2 : t.val % 4 = 2
      · exfalso; omega
      · by_cases h3 : t.val % 4 = 3
        · exfalso; omega
        · by_cases h4 : t.val % 4 = 0
          · by_cases h5 : t.val % 4 = 1
            · exfalso; omega
            · by_cases h6 : t.val % 4 = 2
              · exfalso; omega
              · by_cases h7 : t.val % 4 = 3
                · exfalso; omega
                · rw [outsAt1_A V c t h0 h1 h2 h3 h4 h5 h6 h7]
                  unfold out1_A_4
                  iintro ⟨⟨⟨HR0, HR1, HR2, HR3, HR4, HS0⟩, Hg⟩, Ho, ⟨%d0, H0⟩, ⟨%d1, H1⟩, ⟨%d2, H2⟩, ⟨%d3, H3⟩, ⟨%d4, H4⟩⟩
                  iapply ((kernelRun1_A c (grid1.coords t) _ _ _ _ _ _ _ _ _ _ _ _ ((hcond1_0 t).mpr h0) (fun h => h1 ((hcond1_1 t).mp h)) (fun h => h2 ((hcond1_2 t).mp h)) (fun h => h3 ((hcond1_3 t).mp h)) ((hcond1_4 t).mpr h4) (fun h => h5 ((hcond1_5 t).mp h)) (fun h => h6 ((hcond1_6 t).mp h)) (fun h => h7 ((hcond1_7 t).mp h)) (iblk1 V c 0 t) (iblk1 V c 1 t) (iblk1 V c 2 t) (iblk1 V c 3 t)).2 Set.univ _)
                  isplitl [H0]; · iexact H0
                  isplitl [H1]; · iexact H1
                  isplitl [H2]; · iexact H2
                  isplitl [H3]; · iexact H3
                  isplitl [H4]; · iexists _; iexact H4
                  isplitl [HS0]; · iexact HS0
                  iintro ⟨H0, H1, H2, H3, ⟨%e4, H4⟩, HS0⟩
                  isplitl [HR0 HR1 HR2 HR3 HR4 HS0 Hg]
                  · isplitl [HR0 HR1 HR2 HR3 HR4 HS0]
                    · isplitl [HR0]
                      · iexact HR0
                      isplitl [HR1]
                      · iexact HR1
                      isplitl [HR2]
                      · iexact HR2
                      isplitl [HR3]
                      · iexact HR3
                      isplitl [HR4]
                      · iexact HR4
                      iexact HS0
                    iexact Hg
                  isplitl [Ho]; · iexact Ho
                  isplitl [H0]; · iexact H0
                  isplitl [H1]; · iexact H1
                  isplitl [H2]; · iexact H2
                  isplitl [H3]; · iexact H3
                  unfold owns; iexists _; isplitr
                  swap; · iexact H4
                  ipureintro; exact View.read_writes_of_cover _ _ _ _ _ (cover1_A_4 c _ _ _ _ _ _ _ _ _ _ _ _ _ _ _ _ _ _ _ _ _ _ _ _ _)
          · exfalso; omega
  · by_cases h1 : t.val % 4 = 1
    · by_cases h2 : t.val % 4 = 2
      · exfalso; omega
      · by_cases h3 : t.val % 4 = 3
        · exfalso; omega
        · by_cases h4 : t.val % 4 = 0
          · exfalso; omega
          · by_cases h5 : t.val % 4 = 1
            · by_cases h6 : t.val % 4 = 2
              · exfalso; omega
              · by_cases h7 : t.val % 4 = 3
                · exfalso; omega
                · rw [outsAt1_B V c t h0 h1 h2 h3 h4 h5 h6 h7]
                  unfold out1_B_4
                  iintro ⟨⟨⟨HR0, HR1, HR2, HR3, HR4, HS0⟩, Hg⟩, Ho, ⟨%d0, H0⟩, ⟨%d1, H1⟩, ⟨%d2, H2⟩, ⟨%d3, H3⟩, ⟨%d4, H4⟩⟩
                  iapply ((kernelRun1_B c (grid1.coords t) _ _ _ _ _ _ _ _ _ _ _ _ (fun h => h0 ((hcond1_0 t).mp h)) ((hcond1_1 t).mpr h1) (fun h => h2 ((hcond1_2 t).mp h)) (fun h => h3 ((hcond1_3 t).mp h)) (fun h => h4 ((hcond1_4 t).mp h)) ((hcond1_5 t).mpr h5) (fun h => h6 ((hcond1_6 t).mp h)) (fun h => h7 ((hcond1_7 t).mp h)) (iblk1 V c 0 t) (iblk1 V c 1 t) (iblk1 V c 2 t) (iblk1 V c 3 t)).2 Set.univ _)
                  isplitl [H0]; · iexact H0
                  isplitl [H1]; · iexact H1
                  isplitl [H2]; · iexact H2
                  isplitl [H3]; · iexact H3
                  isplitl [H4]; · iexists _; iexact H4
                  isplitl [HS0]; · iexact HS0
                  iintro ⟨H0, H1, H2, H3, ⟨%e4, H4⟩, HS0⟩
                  isplitl [HR0 HR1 HR2 HR3 HR4 HS0 Hg]
                  · isplitl [HR0 HR1 HR2 HR3 HR4 HS0]
                    · isplitl [HR0]
                      · iexact HR0
                      isplitl [HR1]
                      · iexact HR1
                      isplitl [HR2]
                      · iexact HR2
                      isplitl [HR3]
                      · iexact HR3
                      isplitl [HR4]
                      · iexact HR4
                      iexact HS0
                    iexact Hg
                  isplitl [Ho]; · iexact Ho
                  isplitl [H0]; · iexact H0
                  isplitl [H1]; · iexact H1
                  isplitl [H2]; · iexact H2
                  isplitl [H3]; · iexact H3
                  unfold owns; iexists _; isplitr
                  swap; · iexact H4
                  ipureintro; exact View.read_writes_of_cover _ _ _ _ _ (cover1_B_4 c _ _ _ _ _ _ _ _ _ _ _ _ _ _ _ _ _ _ _ _ _ _ _ _ _)
            · exfalso; omega
    · by_cases h2 : t.val % 4 = 2
      · by_cases h3 : t.val % 4 = 3
        · exfalso; omega
        · by_cases h4 : t.val % 4 = 0
          · exfalso; omega
          · by_cases h5 : t.val % 4 = 1
            · exfalso; omega
            · by_cases h6 : t.val % 4 = 2
              · by_cases h7 : t.val % 4 = 3
                · exfalso; omega
                · rw [outsAt1_C V c t h0 h1 h2 h3 h4 h5 h6 h7]
                  unfold out1_C_4
                  iintro ⟨⟨⟨HR0, HR1, HR2, HR3, HR4, HS0⟩, Hg⟩, Ho, ⟨%d0, H0⟩, ⟨%d1, H1⟩, ⟨%d2, H2⟩, ⟨%d3, H3⟩, ⟨%d4, H4⟩⟩
                  iapply ((kernelRun1_C c (grid1.coords t) _ _ _ _ _ _ _ _ _ _ _ _ (fun h => h0 ((hcond1_0 t).mp h)) (fun h => h1 ((hcond1_1 t).mp h)) ((hcond1_2 t).mpr h2) (fun h => h3 ((hcond1_3 t).mp h)) (fun h => h4 ((hcond1_4 t).mp h)) (fun h => h5 ((hcond1_5 t).mp h)) ((hcond1_6 t).mpr h6) (fun h => h7 ((hcond1_7 t).mp h)) (iblk1 V c 0 t) (iblk1 V c 1 t) (iblk1 V c 2 t) (iblk1 V c 3 t)).2 Set.univ _)
                  isplitl [H0]; · iexact H0
                  isplitl [H1]; · iexact H1
                  isplitl [H2]; · iexact H2
                  isplitl [H3]; · iexact H3
                  isplitl [H4]; · iexists _; iexact H4
                  isplitl [HS0]; · iexact HS0
                  iintro ⟨H0, H1, H2, H3, ⟨%e4, H4⟩, HS0⟩
                  isplitl [HR0 HR1 HR2 HR3 HR4 HS0 Hg]
                  · isplitl [HR0 HR1 HR2 HR3 HR4 HS0]
                    · isplitl [HR0]
                      · iexact HR0
                      isplitl [HR1]
                      · iexact HR1
                      isplitl [HR2]
                      · iexact HR2
                      isplitl [HR3]
                      · iexact HR3
                      isplitl [HR4]
                      · iexact HR4
                      iexact HS0
                    iexact Hg
                  isplitl [Ho]; · iexact Ho
                  isplitl [H0]; · iexact H0
                  isplitl [H1]; · iexact H1
                  isplitl [H2]; · iexact H2
                  isplitl [H3]; · iexact H3
                  unfold owns; iexists _; isplitr
                  swap; · iexact H4
                  ipureintro; exact View.read_writes_of_cover _ _ _ _ _ (cover1_C_4 c _ _ _ _ _ _ _ _ _ _ _ _ _ _ _ _ _ _ _ _ _ _ _ _ _)
              · exfalso; omega
      · by_cases h3 : t.val % 4 = 3
        · by_cases h4 : t.val % 4 = 0
          · exfalso; omega
          · by_cases h5 : t.val % 4 = 1
            · exfalso; omega
            · by_cases h6 : t.val % 4 = 2
              · exfalso; omega
              · by_cases h7 : t.val % 4 = 3
                · rw [outsAt1_D V c t h0 h1 h2 h3 h4 h5 h6 h7]
                  unfold out1_D_4
                  iintro ⟨⟨⟨HR0, HR1, HR2, HR3, HR4, HS0⟩, Hg⟩, Ho, ⟨%d0, H0⟩, ⟨%d1, H1⟩, ⟨%d2, H2⟩, ⟨%d3, H3⟩, ⟨%d4, H4⟩⟩
                  iapply ((kernelRun1_D c (grid1.coords t) _ _ _ _ _ _ _ _ _ _ _ _ (fun h => h0 ((hcond1_0 t).mp h)) (fun h => h1 ((hcond1_1 t).mp h)) (fun h => h2 ((hcond1_2 t).mp h)) ((hcond1_3 t).mpr h3) (fun h => h4 ((hcond1_4 t).mp h)) (fun h => h5 ((hcond1_5 t).mp h)) (fun h => h6 ((hcond1_6 t).mp h)) ((hcond1_7 t).mpr h7) (iblk1 V c 0 t) (iblk1 V c 1 t) (iblk1 V c 2 t) (iblk1 V c 3 t)).2 Set.univ _)
                  isplitl [H0]; · iexact H0
                  isplitl [H1]; · iexact H1
                  isplitl [H2]; · iexact H2
                  isplitl [H3]; · iexact H3
                  isplitl [H4]; · iexists _; iexact H4
                  isplitl [HS0]; · iexact HS0
                  iintro ⟨H0, H1, H2, H3, ⟨%e4, H4⟩, HS0⟩
                  isplitl [HR0 HR1 HR2 HR3 HR4 HS0 Hg]
                  · isplitl [HR0 HR1 HR2 HR3 HR4 HS0]
                    · isplitl [HR0]
                      · iexact HR0
                      isplitl [HR1]
                      · iexact HR1
                      isplitl [HR2]
                      · iexact HR2
                      isplitl [HR3]
                      · iexact HR3
                      isplitl [HR4]
                      · iexact HR4
                      iexact HS0
                    iexact Hg
                  isplitl [Ho]; · iexact Ho
                  isplitl [H0]; · iexact H0
                  isplitl [H1]; · iexact H1
                  isplitl [H2]; · iexact H2
                  isplitl [H3]; · iexact H3
                  unfold owns; iexists _; isplitr
                  swap; · iexact H4
                  ipureintro; exact View.read_writes_of_cover _ _ _ _ _ (cover1_D_4 c _ _ _ _ _ _ _ _ _ _ _ _ _ _ _ _ _ _ _ _ _ _ _ _ _)
                · exfalso; omega
        · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2, main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters, every weakly fair execution of @main on the TensorCores terminates,
    nothing faulting, and every final state has every unscoped buffer at what the fold through @main leaves in it and every
    semaphore counter of the machine at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: every final state has the argument arrays as launched and every semaphore counter of the machine at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

/-- The result array ends at what the fold through @main leaves in it, the argument arrays unchanged. -/
theorem result : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨h.1 c _ (mem_uc main_v6 (by decide)),
       (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩) (run_all m ρ)

end Cert.KernelIdeal.Gen

end
-- ==== Proof.Strip.lean ====
/- One strip of 128 channels of an upsampled level, as the kernel computes it: the rows mixed, each mixed row's columns
   mixed, and the list of strided stores that lays them in the scratch.  Written once for the level of 32 rows (scale 2)
   and once for the level of 16 rows (scale 4); the rows come in as three arrays (the rows themselves, the rows one
   up, the rows one down). -/
module

public import proofs.«01_k».proof.Proof.Gen.KernelIdeal
public import Idealize.ShloMosaic.Lib.Pipeline.ValueKit
public import Idealize.ShloMosaic.Lib.Pipeline.ReadBack

@[expose] public section

noncomputable section

namespace Cert.Hyper

open Cert.KernelIdeal Cert.KernelIdeal.Gen Idealize.ShloMosaic

variable {F : FTy → Type} [FloatOps F]

/-- Two arrays mixed with two constant weights, given by their bits. -/
def mix (S : Shape) (wa wb : BitVec 32) (a x : FVec F S .f32) : FVec F S .f32 :=
  addf (mulf (broadcast S (Scalar.ofBits .f32 wa)) a) (mulf (broadcast S (Scalar.ofBits .f32 wb)) x)

/-! ## Scale 2 -/

/-- The columns one to the left, the first one kept. -/
def left2 (r : FVec F S8x32x128 .f32) : FVec F S8x32x128 .f32 :=
  concatenate S8x32x128 1 [⟨S8x1x128, extractStridedSlice S8x1x128 ![0, 0, 0] r slices_S8x32x128_o0_0_0_S8x1x128⟩, ⟨S8x31x128, extractStridedSlice S8x31x128 ![0, 0, 0] r slices_S8x32x128_o0_0_0_S8x31x128⟩] concatenates_S8x1x128_S8x31x128_S8x32x128_d1

/-- The columns one to the right, the last one kept. -/
def right2 (r : FVec F S8x32x128 .f32) : FVec F S8x32x128 .f32 :=
  concatenate S8x32x128 1 [⟨S8x31x128, extractStridedSlice S8x31x128 ![0, 1, 0] r slices_S8x32x128_o0_1_0_S8x31x128⟩, ⟨S8x1x128, extractStridedSlice S8x1x128 ![0, 31, 0] r slices_S8x32x128_o0_31_0_S8x1x128⟩] concatenates_S8x31x128_S8x1x128_S8x32x128_d1

/-- What is stored at rows of parity `p` and columns of parity `q`. -/
def part2 (p q : Fin 2) (x xd xu : FVec F S8x32x128 .f32) : FVec F S8x32x128 .f32 :=
  let r := mix S8x32x128 0x3E800000#32 0x3F400000#32 (![xd, xu] p) x
  shapeCast S8x32x128 (mix S8x32x128 0x3E800000#32 0x3F400000#32 (![left2, right2] q r) r) shapeCasts_S8x32x128_S8x32x128

/-- The rectangle of every second row from `p` and every second column from `q` lies in the scratch. -/
theorem inb2 (p q : Fin 2) : ∀ a, S8x32x128.size a = 0 ∨ (![p.val, q.val, 0] : Fin 3 → ℕ) a + (![2, 2, 1] : Fin 3 → ℕ) a * (S8x32x128.size a - 1) < S16x64x128.size a := by
  revert p q; decide

/-- One strided store. -/
def store2 (p q : Fin 2) (x xd xu : FVec F S8x32x128 .f32) : View.Piece (Elt F) S16x64x128 .f32 :=
  ⟨{ off := ![p.val, q.val, 0], size := S8x32x128.size, stride := ![2, 2, 1], inb := inb2 p q, stride_pos := spos_2_2_1 }, part2 p q x xd xu⟩

/-- The four stores of a strip, last first. -/
def strip2 (x xd xu : FVec F S8x32x128 .f32) : List (View.Piece (Elt F) S16x64x128 .f32) :=
  [store2 1 1 x xd xu, store2 1 0 x xd xu, store2 0 1 x xd xu, store2 0 0 x xd xu]

/-! ## Scale 4 -/

/-- The columns one to the left, the first one kept. -/
def left4 (r : FVec F S4x16x128 .f32) : FVec F S4x16x128 .f32 :=
  concatenate S4x16x128 1 [⟨S4x1x128, extractStridedSlice S4x1x128 ![0, 0, 0] r slices_S4x16x128_o0_0_0_S4x1x128⟩, ⟨S4x15x128, extractStridedSlice S4x15x128 ![0, 0, 0] r slices_S4x16x128_o0_0_0_S4x15x128⟩] concatenates_S4x1x128_S4x15x128_S4x16x128_d1

/-- The columns one to the right, the last one kept. -/
def right4 (r : FVec F S4x16x128 .f32) : FVec F S4x16x128 .f32 :=
  concatenate S4x16x128 1 [⟨S4x15x128, extractStridedSlice S4x15x128 ![0, 1, 0] r slices_S4x16x128_o0_1_0_S4x15x128⟩, ⟨S4x1x128, extractStridedSlice S4x1x128 ![0, 15, 0] r slices_S4x16x128_o0_15_0_S4x1x128⟩] concatenates_S4x15x128_S4x1x128_S4x16x128_d1

/-- The bits of the neighbour's weight at each of the four offsets, -/
def near4 : Fin 4 → BitVec 32 := ![0x3EC00000#32, 0x3E000000#32, 0x3E000000#32, 0x3EC00000#32]

/-- and those of the sample's own weight. -/
def own4 : Fin 4 → BitVec 32 := ![0x3F200000#32, 0x3F600000#32, 0x3F600000#32, 0x3F200000#32]

/-- What is stored at rows `p` and columns `q` modulo 4. -/
def part4 (p q : Fin 4) (x xd xu : FVec F S4x16x128 .f32) : FVec F S4x16x128 .f32 :=
  let r := mix S4x16x128 (near4 p) (own4 p) (![xd, xd, xu, xu] p) x
  shapeCast S4x16x128 (mix S4x16x128 (near4 q) (own4 q) (![left4, left4, right4, right4] q r) r) shapeCasts_S4x16x128_S4x16x128

/-- The rectangle of every fourth row from `p` and every fourth column from `q` lies in the scratch. -/
theorem inb4 (p q : Fin 4) : ∀ a, S4x16x128.size a = 0 ∨ (![p.val, q.val, 0] : Fin 3 → ℕ) a + (![4, 4, 1] : Fin 3 → ℕ) a * (S4x16x128.size a - 1) < S16x64x128.size a := by
  revert p q; decide

/-- One strided store. -/
def store4 (p q : Fin 4) (x xd xu : FVec F S4x16x128 .f32) : View.Piece (Elt F) S16x64x128 .f32 :=
  ⟨{ off := ![p.val, q.val, 0], size := S4x16x128.size, stride := ![4, 4, 1], inb := inb4 p q, stride_pos := spos_4_4_1 }, part4 p q x xd xu⟩

/-- The sixteen stores of a strip, last first. -/
def strip4 (x xd xu : FVec F S4x16x128 .f32) : List (View.Piece (Elt F) S16x64x128 .f32) :=
  [store4 3 3 x xd xu, store4 3 2 x xd xu, store4 3 1 x xd xu, store4 3 0 x xd xu,
   store4 2 3 x xd xu, store4 2 2 x xd xu, store4 2 1 x xd xu, store4 2 0 x xd xu,
   store4 1 3 x xd xu, store4 1 2 x xd xu, store4 1 1 x xd xu, store4 1 0 x xd xu,
   store4 0 3 x xd xu, store4 0 2 x xd xu, store4 0 1 x xd xu, store4 0 0 x xd xu]

/-! ## The rows of a level's block, and those beside them -/

/-- Eight loaded rows of the level of 32. -/
def rows2 (v : Vec F S1x8x32x384 .f32) : FVec F S8x32x384 .f32 := shapeCast S8x32x384 v shapeCasts_S1x8x32x384_S8x32x384

/-- The rows one up, the top one kept. -/
def above2 (v : Vec F S1x8x32x384 .f32) : FVec F S8x32x384 .f32 :=
  concatenate S8x32x384 0 [⟨S1x32x384, extractStridedSlice S1x32x384 ![0, 0, 0] (rows2 v) slices_S8x32x384_o0_0_0_S1x32x384⟩, ⟨S7x32x384, extractStridedSlice S7x32x384 ![0, 0, 0] (rows2 v) slices_S8x32x384_o0_0_0_S7x32x384⟩] concatenates_S1x32x384_S7x32x384_S8x32x384_d0

/-- The rows one down, the bottom one kept. -/
def below2 (v : Vec F S1x8x32x384 .f32) : FVec F S8x32x384 .f32 :=
  concatenate S8x32x384 0 [⟨S7x32x384, extractStridedSlice S7x32x384 ![1, 0, 0] (rows2 v) slices_S8x32x384_o1_0_0_S7x32x384⟩, ⟨S1x32x384, extractStridedSlice S1x32x384 ![7, 0, 0] (rows2 v) slices_S8x32x384_o7_0_0_S1x32x384⟩] concatenates_S7x32x384_S1x32x384_S8x32x384_d0

/-- Strip `k` of the level's channels lies in it. -/
theorem slices2 (k : Fin 3) : S8x32x384.Slices ![0, 0, 128 * k.val] S8x32x128 := by
  revert k; decide

/-- Strip `k` of the rows: channels `128 k … 128 k + 127`. -/
abbrev cut2 (k : Fin 3) (v : FVec F S8x32x384 .f32) : FVec F S8x32x128 .f32 :=
  extractStridedSlice S8x32x128 ![0, 0, 128 * k.val] v (slices2 k)

/-- Four loaded rows of the level of 16. -/
def rows4 (v : Vec F S1x4x16x768 .f32) : FVec F S4x16x768 .f32 := shapeCast S4x16x768 v shapeCasts_S1x4x16x768_S4x16x768

/-- The rows one up, the top one kept. -/
def above4 (v : Vec F S1x4x16x768 .f32) : FVec F S4x16x768 .f32 :=
  concatenate S4x16x768 0 [⟨S1x16x768, extractStridedSlice S1x16x768 ![0, 0, 0] (rows4 v) slices_S4x16x768_o0_0_0_S1x16x768⟩, ⟨S3x16x768, extractStridedSlice S3x16x768 ![0, 0, 0] (rows4 v) slices_S4x16x768_o0_0_0_S3x16x768⟩] concatenates_S1x16x768_S3x16x768_S4x16x768_d0

/-- The rows one down, the bottom one kept. -/
def below4 (v : Vec F S1x4x16x768 .f32) : FVec F S4x16x768 .f32 :=
  concatenate S4x16x768 0 [⟨S3x16x768, extractStridedSlice S3x16x768 ![1, 0, 0] (rows4 v) slices_S4x16x768_o1_0_0_S3x16x768⟩, ⟨S1x16x768, extractStridedSlice S1x16x768 ![3, 0, 0] (rows4 v) slices_S4x16x768_o3_0_0_S1x16x768⟩] concatenates_S3x16x768_S1x16x768_S4x16x768_d0

/-- Strip `k` of the level's channels lies in it. -/
theorem slices4 (k : Fin 6) : S4x16x768.Slices ![0, 0, 128 * k.val] S4x16x128 := by
  revert k; decide

/-- Strip `k` of the rows: channels `128 k … 128 k + 127`. -/
abbrev cut4 (k : Fin 6) (v : FVec F S4x16x768 .f32) : FVec F S4x16x128 .f32 :=
  extractStridedSlice S4x16x128 ![0, 0, 128 * k.val] v (slices4 k)

/-! ## The stores of a block -/

/-- The whole scratch. -/
abbrev whole : Rect S16x64x128 := Rect.unit ![0, 0, 0] S16x64x128.size inb_S16x64x128_S16x64x128_0_0_0

/-- The stores in the scratch after `k` strips of the first level, last first. -/
def log2 (x xd xu : FVec F S8x32x384 .f32) : ℕ → List (View.Piece (Elt F) S16x64x128 .f32)
  | 0 => []
  | k + 1 => strip2 (cut2 (Fin.ofNat 3 k) x) (cut2 (Fin.ofNat 3 k) xd) (cut2 (Fin.ofNat 3 k) xu) ++ log2 x xd xu k

/-- The stores in the scratch after `k` strips of the second level, over the stores `L`. -/
def log4 (L : List (View.Piece (Elt F) S16x64x128 .f32)) (x xd xu : FVec F S4x16x768 .f32) : ℕ → List (View.Piece (Elt F) S16x64x128 .f32)
  | 0 => L
  | k + 1 => strip4 (cut4 (Fin.ofNat 6 k) x) (cut4 (Fin.ofNat 6 k) xd) (cut4 (Fin.ofNat 6 k) xu) ++ log4 L x xd xu k

/-- The scratch read back after the stores `L`, with the leading unit axis of the output block. -/
def back (arg7 : Memref sig .tc .vmem S16x64x128 .f32) (L : List (View.Piece (Elt F) S16x64x128 .f32)) : FVec F S1x16x64x128 .f32 :=
  shapeCast S1x16x64x128 (arg7.view.readCov L whole.toLoadRect) shapeCasts_S16x64x128_S1x16x64x128

/-- The store of one strip's 128 channels in the output block, from channel `lo`. -/
def lay (lo : ℕ) (h : ∀ a, (![0, 0, 0, lo] : Fin 4 → ℕ) a + S1x16x64x128.size a ≤ S1x16x64x1440.size a) (v : FVec F S1x16x64x128 .f32) :
    View.Piece (Elt F) S1x16x64x1440 .f32 :=
  ⟨Rect.unit ![0, 0, 0, lo] S1x16x64x128.size h, v⟩

/-- The eleven stores of a block, last first: the strips of the two upsampled levels, the level copied, the pooled level. -/
def blockStores (arg7 : Memref sig .tc .vmem S16x64x128 .f32) (v0 : FVec F S1x16x64x96 .f32) (v1 : FVec F S1x16x64x192 .f32)
    (x xd xu : FVec F S8x32x384 .f32) (z zd zu : FVec F S4x16x768 .f32) : List (View.Piece (Elt F) S1x16x64x1440 .f32) :=
  [lay 1312 inb_S1x16x64x1440_S1x16x64x128_0_0_0_1312 (back arg7 (log4 (log2 x xd xu 3) z zd zu 6)),
   lay 1184 inb_S1x16x64x1440_S1x16x64x128_0_0_0_1184 (back arg7 (log4 (log2 x xd xu 3) z zd zu 5)),
   lay 1056 inb_S1x16x64x1440_S1x16x64x128_0_0_0_1056 (back arg7 (log4 (log2 x xd xu 3) z zd zu 4)),
   lay 928 inb_S1x16x64x1440_S1x16x64x128_0_0_0_928 (back arg7 (log4 (log2 x xd xu 3) z zd zu 3)),
   lay 800 inb_S1x16x64x1440_S1x16x64x128_0_0_0_800 (back arg7 (log4 (log2 x xd xu 3) z zd zu 2)),
   lay 672 inb_S1x16x64x1440_S1x16x64x128_0_0_0_672 (back arg7 (log4 (log2 x xd xu 3) z zd zu 1)),
   lay 544 inb_S1x16x64x1440_S1x16x64x128_0_0_0_544 (back arg7 (log2 x xd xu 3)),
   lay 416 inb_S1x16x64x1440_S1x16x64x128_0_0_0_416 (back arg7 (log2 x xd xu 2)),
   lay 288 inb_S1x16x64x1440_S1x16x64x128_0_0_0_288 (back arg7 (log2 x xd xu 1)),
   ⟨Rect.unit ![0, 0, 0, 96] S1x16x64x192.size inb_S1x16x64x1440_S1x16x64x192_0_0_0_96, shapeCast S1x16x64x192 v1 shapeCasts_S1x16x64x192_S1x16x64x192⟩,
   ⟨Rect.unit ![0, 0, 0, 0] S1x16x64x96.size inb_S1x16x64x1440_S1x16x64x96_0_0_0_0, shapeCast S1x16x64x96 v0 shapeCasts_S1x16x64x96_S1x16x64x96⟩]

end Cert.Hyper

end
-- ==== Proof.Weights.lean ====
/- Linear interpolation with weights in eighths, over the extended reals: the one-dimensional rule of the reference
   (`lerp`), the one-dimensional rule of the kernel (`up`), their equality, and the exchange of the two axes. -/
module

public import Idealize.ShloMosaic.Lib.IdealHost

@[expose] public section

noncomputable section

namespace Cert.Hyper

/-- `n` eighths. -/
def e8 (n : ℕ) : EReal := (((n : ℝ) / 8 : ℝ) : EReal)

/-- A weight is not negative. -/
theorem e8_nonneg (n : ℕ) : 0 ≤ e8 n := by
  unfold e8; exact_mod_cast (by positivity : (0 : ℝ) ≤ (n : ℝ) / 8)

/-- A weight is finite. -/
theorem e8_ne_top (n : ℕ) : e8 n ≠ ⊤ := EReal.coe_ne_top _

/-- No eighth is nought. -/
theorem e8_zero : e8 0 = 0 := by simp [e8]

/-- Eight eighths are one. -/
theorem e8_eight : e8 8 = 1 := by unfold e8; norm_num

/-- Weights multiply as their eighths do. -/
theorem e8_mul (a b : ℕ) : e8 a * e8 b = ((((a : ℝ) / 8) * ((b : ℝ) / 8) : ℝ) : EReal) := by
  unfold e8; exact_mod_cast rfl

/-- A weight distributes over a sum, whatever the summands. -/
theorem e8_mul_add (n : ℕ) (a b : EReal) : e8 n * (a + b) = e8 n * a + e8 n * b :=
  EReal.left_distrib_of_nonneg_of_ne_top (e8_nonneg n) (e8_ne_top n) a b

/-- The same with the weight on the right. -/
theorem add_mul_e8 (n : ℕ) (a b : EReal) : (a + b) * e8 n = a * e8 n + b * e8 n := by
  rw [mul_comm, e8_mul_add, mul_comm (e8 n), mul_comm (e8 n)]

/-- Two weights that make up a whole leave their common operand as it is. -/
theorem e8_split (n : ℕ) (h : n ≤ 8) (a : EReal) : e8 n * a + e8 (8 - n) * a = a := by
  have hs : e8 n + e8 (8 - n) = 1 := by
    unfold e8
    rw [← EReal.coe_add, Nat.cast_sub h]
    have : (n : ℝ) / 8 + ((8 : ℕ) - (n : ℝ)) / 8 = 1 := by push_cast; ring
    rw [this]; rfl
  rw [← EReal.right_distrib_of_nonneg (e8_nonneg n) (e8_nonneg _), hs, one_mul]

/-- The source position of output `k`, in eighths, for a level of `16 q` samples read at 64 places: nought where it
    would fall before the first sample. -/
def pos (q k : ℕ) : ℕ := (2 * k + 1) * q - 4

/-- The sample at or before the source position. -/
def lo (n q k : ℕ) : ℕ := min (pos q k / 8) (n - 1)

/-- The sample after it, or the last one. -/
def hi (n q k : ℕ) : ℕ := min (lo n q k + 1) (n - 1)

/-- The weight of the later sample, in eighths. -/
def fr (q k : ℕ) : ℕ := pos q k % 8

/-- The reference's rule along one axis: the two neighbouring samples, weighted. -/
def lerp (n q k : ℕ) (f : ℕ → EReal) : EReal :=
  f (lo n q k) * e8 (8 - fr q k) + f (hi n q k) * e8 (fr q k)

/-- Interpolating over one axis and then the other does not depend on which comes first. -/
theorem lerp_swap (n q k k' : ℕ) (f : ℕ → ℕ → EReal) :
    lerp n q k (fun y => lerp n q k' (fun x => f y x)) = lerp n q k' (fun x => lerp n q k (fun y => f y x)) := by
  unfold lerp
  simp only [add_mul_e8]
  have e : ∀ (a : EReal) (u v : ℕ), a * e8 u * e8 v = a * e8 v * e8 u := fun a u v => by
    rw [mul_assoc, mul_assoc, mul_comm (e8 u)]
  rw [e (f (lo n q k) (lo n q k')), e (f (lo n q k) (hi n q k')), e (f (hi n q k) (lo n q k')), e (f (hi n q k) (hi n q k'))]
  rw [add_add_add_comm]

/-- The kernel's weight of the neighbour at phase `p` of `s`, in eighths: the distance between the source position and
    the sample of the output's own group. -/
def wt (s p : ℕ) : ℕ := if p < s / 2 then 4 - (2 * p + 1) * (4 / s) else (2 * p + 1) * (4 / s) - 4

/-- The neighbour the kernel reads beside sample `R` at phase `p`: the one before in the first half of the phases, the
    one after in the second, the sample itself at an end. -/
def nb (s n p R : ℕ) : ℕ := if p < s / 2 then R - 1 else min (R + 1) (n - 1)

/-- The kernel's rule along one axis at sample `R`, phase `p`. -/
def up (s n p R : ℕ) (f : ℕ → EReal) : EReal := e8 (wt s p) * f (nb s n p R) + e8 (8 - wt s p) * f R

/-- The kernel's rule is the reference's, for the doubled level. -/
theorem up_two (p R : ℕ) (hp : p < 2) (hR : R < 32) (f : ℕ → EReal) : up 2 32 p R f = lerp 32 2 (2 * R + p) f := by
  unfold up lerp
  rcases Nat.eq_zero_or_pos R with rfl | h
  · interval_cases p
    · have h1 : lo 32 2 (2 * 0 + 0) = 0 := rfl
      have h3 : fr 2 (2 * 0 + 0) = 0 := rfl
      rw [h1, h3, e8_zero, mul_zero, add_zero, Nat.sub_zero, e8_eight, mul_one]
      exact e8_split 2 (by decide) (f 0)
    · rw [add_comm, mul_comm, mul_comm (e8 (wt 2 1))]; rfl
  · interval_cases p
    · have h1 : lo 32 2 (2 * R + 0) = R - 1 := by unfold lo pos; omega
      have h2 : hi 32 2 (2 * R + 0) = R := by unfold hi; rw [h1]; omega
      have h3 : fr 2 (2 * R + 0) = 6 := by unfold fr pos; omega
      rw [h1, h2, h3, mul_comm, mul_comm _ (f R)]; rfl
    · have h1 : lo 32 2 (2 * R + 1) = R := by unfold lo pos; omega
      have h2 : hi 32 2 (2 * R + 1) = min (R + 1) 31 := by unfold hi; rw [h1]
      have h3 : fr 2 (2 * R + 1) = 2 := by unfold fr pos; omega
      rw [h1, h2, h3, add_comm, mul_comm, mul_comm _ (f (nb 2 32 1 R))]; rfl

/-- The kernel's rule is the reference's, for the quadrupled level. -/
theorem up_four (p R : ℕ) (hp : p < 4) (hR : R < 16) (f : ℕ → EReal) : up 4 16 p R f = lerp 16 1 (4 * R + p) f := by
  unfold up lerp
  by_cases hh : p < 2
  · rcases Nat.eq_zero_or_pos R with rfl | h
    · have h1 : lo 16 1 (4 * 0 + p) = 0 := by unfold lo pos; omega
      have h3 : fr 1 (4 * 0 + p) = 0 := by unfold fr pos; omega
      have h4 : nb 4 16 p 0 = 0 := by unfold nb; rw [if_pos (by omega)]
      rw [h1, h3, h4, e8_zero, mul_zero, add_zero, Nat.sub_zero, e8_eight, mul_one]
      exact e8_split _ (by unfold wt; split <;> omega) (f 0)
    · have h1 : lo 16 1 (4 * R + p) = R - 1 := by unfold lo pos; omega
      have h2 : hi 16 1 (4 * R + p) = R := by unfold hi; rw [h1]; omega
      have h3 : fr 1 (4 * R + p) = 8 - wt 4 p := by unfold fr pos wt; rw [if_pos (by omega)]; omega
      have h4 : nb 4 16 p R = R - 1 := by unfold nb; rw [if_pos (by omega)]
      have h5 : 8 - (8 - wt 4 p) = wt 4 p := by unfold wt; rw [if_pos (by omega)]; omega
      rw [h1, h2, h3, h4, h5, mul_comm, mul_comm _ (f R)]
  · have h1 : lo 16 1 (4 * R + p) = R := by unfold lo pos; omega
    have h2 : hi 16 1 (4 * R + p) = min (R + 1) 15 := by unfold hi; rw [h1]
    have h3 : fr 1 (4 * R + p) = wt 4 p := by unfold fr pos wt; rw [if_neg (by omega)]; omega
    have h4 : nb 4 16 p R = min (R + 1) 15 := by unfold nb; rw [if_neg (by omega)]
    rw [h1, h2, h3, h4, add_comm, mul_comm, mul_comm _ (f (min (R + 1) 15))]

/-- Where the level has the output's own size the rule reads the sample itself. -/
theorem lerp_id (k : ℕ) (hk : k < 64) (f : ℕ → EReal) : lerp 64 4 k f = f k := by
  have h1 : lo 64 4 k = k := by unfold lo pos; omega
  have h3 : fr 4 k = 0 := by unfold fr pos; omega
  unfold lerp
  rw [h1, h3, e8_zero, mul_zero, add_zero, Nat.sub_zero, e8_eight, mul_one]

/-- Where the level has twice the output's size the rule is the mean of two samples. -/
theorem lerp_half (k : ℕ) (hk : k < 64) (f : ℕ → EReal) : lerp 128 8 k f = f (2 * k) * e8 4 + f (2 * k + 1) * e8 4 := by
  have h1 : lo 128 8 k = 2 * k := by unfold lo pos; omega
  have h2 : hi 128 8 k = 2 * k + 1 := by unfold hi; rw [h1]; omega
  have h3 : fr 8 k = 4 := by unfold fr pos; omega
  unfold lerp
  rw [h1, h2, h3]

/-- The mean of the four samples of a square, as the kernel adds them. -/
theorem pool_eq (k k' : ℕ) (hk : k < 64) (hk' : k' < 64) (f : ℕ → ℕ → EReal) :
    lerp 128 8 k (fun y => lerp 128 8 k' (fun x => f y x))
      = (f (2 * k) (2 * k') + f (2 * k + 1) (2 * k')) * e8 2 + (f (2 * k) (2 * k' + 1) + f (2 * k + 1) (2 * k' + 1)) * e8 2 := by
  have e : e8 4 * e8 4 = e8 2 := by rw [e8_mul]; unfold e8; congr 1; push_cast; norm_num
  simp only [lerp_half _ hk, lerp_half _ hk', add_mul_e8, mul_assoc, e]
  rw [add_add_add_comm]

end Cert.Hyper

end
-- ==== Proof.StripValue.lean ====
/- What a strip's stores leave in the scratch, index by index, over the ideal floats: the kernel's rule along the rows,
   then along the columns. -/
module

public import proofs.«01_k».proof.Proof.Strip
public import proofs.«01_k».proof.Proof.Weights
public import Idealize.ShloMosaic.Lib.Pointwise
public import Idealize.ShloMosaic.Lib.ValueIdxCore

@[expose] public section

noncomputable section

namespace Cert.Hyper

open Cert.KernelIdeal Cert.KernelIdeal.Gen Idealize.ShloMosaic

/-- The kernel's six constants are eighths. -/
theorem ofBits_eighths : Ideal.ofBits .f32 0x3E000000#32 = e8 1 ∧ Ideal.ofBits .f32 0x3E800000#32 = e8 2 ∧ Ideal.ofBits .f32 0x3EC00000#32 = e8 3
    ∧ Ideal.ofBits .f32 0x3F200000#32 = e8 5 ∧ Ideal.ofBits .f32 0x3F400000#32 = e8 6 ∧ Ideal.ofBits .f32 0x3F600000#32 = e8 7 := by
  refine ⟨?_, ?_, ?_, ?_, ?_, ?_⟩ <;> simp [Ideal.ofBits, Ideal.ieee, e8, -EReal.coe_mul] <;> norm_num

/-- An array of `m` rows, `n` columns and 128 channels read at natural numbers, nought outside it. -/
def tot {m n : ℕ} (r : FVec Ideal ⟨3, ![m, n, 128]⟩ .f32) (i k : ℕ) (c : Fin 128) : EReal :=
  if h : i < m ∧ k < n then r (ix3 ⟨i, h.1⟩ ⟨k, h.2⟩ c) else 0

/-- Inside the array it is the array. -/
theorem tot_eq {m n : ℕ} (r : FVec Ideal ⟨3, ![m, n, 128]⟩ .f32) (i : Fin m) (k : Fin n) (c : Fin 128) : tot r i k c = r (ix3 i k c) := by
  unfold tot; rw [dif_pos ⟨i.isLt, k.isLt⟩]

/-- The mix of two arrays at an index. -/
theorem mix_at (S : Shape) (wa wb : BitVec 32) (a x : FVec Ideal S .f32) (j : S.Idx) :
    mix S wa wb a x j = Ideal.ofBits .f32 wa * a j + Ideal.ofBits .f32 wb * x j := rfl

/-- The mix of two arrays read at natural numbers. -/
theorem tot_mix {m n : ℕ} (wa wb : BitVec 32) (u : ℕ) (ha : Ideal.ofBits .f32 wa = e8 u) (hb : Ideal.ofBits .f32 wb = e8 (8 - u))
    (a x : FVec Ideal ⟨3, ![m, n, 128]⟩ .f32) (i k : ℕ) (c : Fin 128) :
    tot (mix _ wa wb a x) i k c = e8 u * tot a i k c + e8 (8 - u) * tot x i k c := by
  unfold tot
  split
  · rw [mix_at, ha, hb]
  · simp

/-! ## Scale 2 -/

/-- One column to the left, at an index. -/
theorem left2_at (r : FVec Ideal S8x32x128 .f32) (i : Fin 8) (k : Fin 32) (c : Fin 128) :
    left2 r (ix3 i k c) = tot r i (k - 1) c := by
  pointwise [left2]
  unfold tot
  rw [dif_pos (show (i : ℕ) < 8 ∧ (k : ℕ) - 1 < 32 from ⟨i.isLt, by omega⟩)]
  split
  · exact congrArg (fun t => r (ix3 i t c)) (Fin.ext (show (k : ℕ) = k - 1 by omega))
  · rfl

/-- One column to the right, at an index. -/
theorem right2_at (r : FVec Ideal S8x32x128 .f32) (i : Fin 8) (k : Fin 32) (c : Fin 128) :
    right2 r (ix3 i k c) = tot r i (min (k + 1) 31) c := by
  pointwise [right2]
  unfold tot
  rw [dif_pos (show (i : ℕ) < 8 ∧ min ((k : ℕ) + 1) 31 < 32 from ⟨i.isLt, by omega⟩)]
  split
  · exact congrArg (fun t => r (ix3 i t c)) (Fin.ext (show 1 + (k : ℕ) = min ((k : ℕ) + 1) 31 by omega))
  · exact congrArg (fun t => r (ix3 i t c)) (Fin.ext (show 31 + ((k : ℕ) - 31) = min ((k : ℕ) + 1) 31 by omega))

/-- The scratch after a strip of scale 2: the rule along the rows, then along the columns. -/
def scr2 (x xd xu : FVec Ideal S8x32x128 .f32) (y z : ℕ) (c : Fin 128) : EReal :=
  up 2 32 (z % 2) (z / 2) fun k => e8 (wt 2 (y % 2)) * tot (if y % 2 < 1 then xd else xu) (y / 2) k c + e8 (8 - wt 2 (y % 2)) * tot x (y / 2) k c

/-- What one strided store holds is the scratch's block there. -/
theorem part2_at (p q : Fin 2) (x xd xu : FVec Ideal S8x32x128 .f32) (i : Fin 8) (k : Fin 32) (c : Fin 128) :
    part2 p q x xd xu (ix3 i k c) = scr2 x xd xu (2 * i + p) (2 * k + q) c := by
  obtain ⟨-, h2, -, -, h6, -⟩ := ofBits_eighths
  have hp : (2 * (i : ℕ) + p) % 2 = p := by omega
  have hp' : (2 * (i : ℕ) + p) / 2 = i := by omega
  have hq : (2 * (k : ℕ) + q) % 2 = q := by omega
  have hq' : (2 * (k : ℕ) + q) / 2 = k := by omega
  unfold scr2
  rw [hp, hp', hq, hq']
  pointwise [part2]
  rw [mix_at, h2, h6, ← tot_eq (mix _ _ _ _ _)]
  have hr (k' : ℕ) : tot (mix S8x32x128 0x3E800000#32 0x3F400000#32 (![xd, xu] p) x) i k' c
      = e8 (wt 2 p) * tot (if p.val < 1 then xd else xu) i k' c + e8 (8 - wt 2 p) * tot x i k' c := by
    rw [tot_mix _ _ 2 h2 h6]
    fin_cases p <;> rfl
  have hc : (![left2, right2] q (mix S8x32x128 0x3E800000#32 0x3F400000#32 (![xd, xu] p) x)) (ix3 i k c)
      = tot (mix S8x32x128 0x3E800000#32 0x3F400000#32 (![xd, xu] p) x) i (nb 2 32 q k) c := by
    fin_cases q
    · exact left2_at _ _ _ _
    · exact right2_at _ _ _ _
  have hw : wt 2 q = 2 := by fin_cases q <;> rfl
  unfold up
  rw [hc, hr, hr, hw]

/-- Where a strided store's element lies. -/
theorem emb2 (p q : Fin 2) (x xd xu : FVec Ideal S8x32x128 .f32) (j : S8x32x128.Idx) :
    (((store2 p q x xd xu).1.emb j 0).val = 2 * (j 0).val + p ∧ ((store2 p q x xd xu).1.emb j 1).val = 2 * (j 1).val + q)
      ∧ ((store2 p q x xd xu).1.emb j 2).val = (j 2).val := by
  refine ⟨⟨?_, ?_⟩, ?_⟩
  · show p.val + 2 * (j 0).val = _; omega
  · show q.val + 2 * (j 1).val = _; omega
  · show 0 + 1 * (j 2).val = _; omega

/-- One strided store is a block of the scratch. -/
theorem store2_piece (p q : Fin 2) (x xd xu : FVec Ideal S8x32x128 .f32) (j : S8x32x128.Idx) :
    (store2 p q x xd xu).2 j = (fun i : S16x64x128.Idx => scr2 x xd xu (i 0).val (i 1).val (i 2)) ((store2 p q x xd xu).1.emb j) := by
  obtain ⟨⟨h0, h1⟩, h2⟩ := emb2 p q x xd xu j
  have h2' : (store2 p q x xd xu).1.emb j 2 = (j 2 : Fin 128) := Fin.ext h2
  show part2 p q x xd xu j = scr2 x xd xu _ _ _
  rw [h0, h1, h2', ← part2_at p q x xd xu (j 0) (j 1) (j 2)]
  exact congrArg _ (eq_ix3 j)

/-- The four stores cover the scratch: an element lies in the store of its row's and its column's parity. -/
theorem strip2_covers (x xd xu : FVec Ideal S8x32x128 .f32) (y : S16x64x128.Idx) : ∃ p ∈ strip2 x xd xu, y ∈ p.1.set := by
  have h0 : (y 0).val < 16 := (y 0).isLt
  have h1 : (y 1).val < 64 := (y 1).isLt
  have hm (p q : Fin 2) : store2 p q x xd xu ∈ strip2 x xd xu := by
    fin_cases p <;> fin_cases q <;> simp [strip2]
  refine ⟨_, hm ⟨(y 0).val % 2, by omega⟩ ⟨(y 1).val % 2, by omega⟩, (LoadRect.mem_set _).mpr fun a => ?_⟩
  fin_cases a
  · exact ⟨(y 0).val / 2, show _ < 8 by omega, show (y 0).val = (y 0).val % 2 + 2 * ((y 0).val / 2) by omega⟩
  · exact ⟨(y 1).val / 2, show _ < 32 by omega, show (y 1).val = (y 1).val % 2 + 2 * ((y 1).val / 2) by omega⟩
  · exact ⟨(y 2).val, (y 2).isLt, show (y 2).val = 0 + 1 * (y 2).val by omega⟩

/-- An element of the whole scratch is itself. -/
theorem whole_idx (y : S16x64x128.Idx) : whole.toLoadRect.idx y = y := by
  funext a
  refine Fin.ext ?_
  show (![0, 0, 0] : Fin 3 → ℕ) a + 1 * (y a).val = (y a).val
  fin_cases a <;> simp

/-- The scratch read back after a strip, whatever was stored before. -/
theorem strip2_read (arg7 : Memref sig .tc .vmem S16x64x128 .f32) (x xd xu : FVec Ideal S8x32x128 .f32) (L : List (View.Piece (Elt Ideal) S16x64x128 .f32)) (y : S16x64x128.Idx) :
    arg7.view.readCov (strip2 x xd xu ++ L) whole.toLoadRect y = scr2 x xd xu (y 0).val (y 1).val (y 2) := by
  rw [View.readCov_eq_canon']
  show View.canon _ (whole.toLoadRect.idx y) = _
  rw [whole_idx y]
  refine View.canon_append_of_piecesOf (fun i : S16x64x128.Idx => scr2 x xd xu (i 0).val (i 1).val (i 2)) L _ ?_ y (strip2_covers x xd xu y)
  repeat' apply And.intro
  all_goals first | exact store2_piece _ _ x xd xu | trivial

/-! ## Scale 4 -/

/-- One column to the left, at an index. -/
theorem left4_at (r : FVec Ideal S4x16x128 .f32) (i : Fin 4) (k : Fin 16) (c : Fin 128) :
    left4 r (ix3 i k c) = tot r i (k - 1) c := by
  pointwise [left4]
  unfold tot
  rw [dif_pos (show (i : ℕ) < 4 ∧ (k : ℕ) - 1 < 16 from ⟨i.isLt, by omega⟩)]
  split
  · exact congrArg (fun t => r (ix3 i t c)) (Fin.ext (show (k : ℕ) = k - 1 by omega))
  · rfl

/-- One column to the right, at an index. -/
theorem right4_at (r : FVec Ideal S4x16x128 .f32) (i : Fin 4) (k : Fin 16) (c : Fin 128) :
    right4 r (ix3 i k c) = tot r i (min (k + 1) 15) c := by
  pointwise [right4]
  unfold tot
  rw [dif_pos (show (i : ℕ) < 4 ∧ min ((k : ℕ) + 1) 15 < 16 from ⟨i.isLt, by omega⟩)]
  split
  · exact congrArg (fun t => r (ix3 i t c)) (Fin.ext (show 1 + (k : ℕ) = min ((k : ℕ) + 1) 15 by omega))
  · exact congrArg (fun t => r (ix3 i t c)) (Fin.ext (show 15 + ((k : ℕ) - 15) = min ((k : ℕ) + 1) 15 by omega))

/-- The two weights of each offset are eighths that add to one. -/
theorem weights4 (p : Fin 4) : Ideal.ofBits .f32 (near4 p) = e8 (wt 4 p) ∧ Ideal.ofBits .f32 (own4 p) = e8 (8 - wt 4 p) := by
  obtain ⟨h1, -, h3, h5, -, h7⟩ := ofBits_eighths
  fin_cases p
  · exact ⟨h3, h5⟩
  · exact ⟨h1, h7⟩
  · exact ⟨h1, h7⟩
  · exact ⟨h3, h5⟩

/-- The scratch after a strip of scale 4: the rule along the rows, then along the columns. -/
def scr4 (x xd xu : FVec Ideal S4x16x128 .f32) (y z : ℕ) (c : Fin 128) : EReal :=
  up 4 16 (z % 4) (z / 4) fun k => e8 (wt 4 (y % 4)) * tot (if y % 4 < 2 then xd else xu) (y / 4) k c + e8 (8 - wt 4 (y % 4)) * tot x (y / 4) k c

/-- What one strided store holds is the scratch's block there. -/
theorem part4_at (p q : Fin 4) (x xd xu : FVec Ideal S4x16x128 .f32) (i : Fin 4) (k : Fin 16) (c : Fin 128) :
    part4 p q x xd xu (ix3 i k c) = scr4 x xd xu (4 * i + p) (4 * k + q) c := by
  have hp : (4 * (i : ℕ) + p) % 4 = p := by omega
  have hp' : (4 * (i : ℕ) + p) / 4 = i := by omega
  have hq : (4 * (k : ℕ) + q) % 4 = q := by omega
  have hq' : (4 * (k : ℕ) + q) / 4 = k := by omega
  unfold scr4
  rw [hp, hp', hq, hq']
  pointwise [part4]
  rw [mix_at, (weights4 q).1, (weights4 q).2, ← tot_eq (mix _ _ _ _ _)]
  have hr (k' : ℕ) : tot (mix S4x16x128 (near4 p) (own4 p) (![xd, xd, xu, xu] p) x) i k' c
      = e8 (wt 4 p) * tot (if p.val < 2 then xd else xu) i k' c + e8 (8 - wt 4 p) * tot x i k' c := by
    rw [tot_mix _ _ _ (weights4 p).1 (weights4 p).2]
    fin_cases p <;> rfl
  have hc : (![left4, left4, right4, right4] q (mix S4x16x128 (near4 p) (own4 p) (![xd, xd, xu, xu] p) x)) (ix3 i k c)
      = tot (mix S4x16x128 (near4 p) (own4 p) (![xd, xd, xu, xu] p) x) i (nb 4 16 q k) c := by
    fin_cases q
    · exact left4_at _ _ _ _
    · exact left4_at _ _ _ _
    · exact right4_at _ _ _ _
    · exact right4_at _ _ _ _
  unfold up
  rw [hc, hr, hr]

/-- Where a strided store's element lies. -/
theorem emb4 (p q : Fin 4) (x xd xu : FVec Ideal S4x16x128 .f32) (j : S4x16x128.Idx) :
    (((store4 p q x xd xu).1.emb j 0).val = 4 * (j 0).val + p ∧ ((store4 p q x xd xu).1.emb j 1).val = 4 * (j 1).val + q)
      ∧ ((store4 p q x xd xu).1.emb j 2).val = (j 2).val := by
  refine ⟨⟨?_, ?_⟩, ?_⟩
  · show p.val + 4 * (j 0).val = _; omega
  · show q.val + 4 * (j 1).val = _; omega
  · show 0 + 1 * (j 2).val = _; omega

/-- One strided store is a block of the scratch. -/
theorem store4_piece (p q : Fin 4) (x xd xu : FVec Ideal S4x16x128 .f32) (j : S4x16x128.Idx) :
    (store4 p q x xd xu).2 j = (fun i : S16x64x128.Idx => scr4 x xd xu (i 0).val (i 1).val (i 2)) ((store4 p q x xd xu).1.emb j) := by
  obtain ⟨⟨h0, h1⟩, h2⟩ := emb4 p q x xd xu j
  have h2' : (store4 p q x xd xu).1.emb j 2 = (j 2 : Fin 128) := Fin.ext h2
  show part4 p q x xd xu j = scr4 x xd xu _ _ _
  rw [h0, h1, h2', ← part4_at p q x xd xu (j 0) (j 1) (j 2)]
  exact congrArg _ (eq_ix3 j)

/-- Every one of the sixteen stores is in the strip. -/
theorem store4_mem (p q : Fin 4) (x xd xu : FVec Ideal S4x16x128 .f32) : store4 p q x xd xu ∈ strip4 x xd xu := by
  fin_cases p <;> fin_cases q <;> simp [strip4]

/-- The sixteen stores cover the scratch: an element lies in the store of its row's and its column's remainder. -/
theorem strip4_covers (x xd xu : FVec Ideal S4x16x128 .f32) (y : S16x64x128.Idx) : ∃ p ∈ strip4 x xd xu, y ∈ p.1.set := by
  have h0 : (y 0).val < 16 := (y 0).isLt
  have h1 : (y 1).val < 64 := (y 1).isLt
  refine ⟨_, store4_mem ⟨(y 0).val % 4, by omega⟩ ⟨(y 1).val % 4, by omega⟩ x xd xu, (LoadRect.mem_set _).mpr fun a => ?_⟩
  fin_cases a
  · exact ⟨(y 0).val / 4, show _ < 4 by omega, show (y 0).val = (y 0).val % 4 + 4 * ((y 0).val / 4) by omega⟩
  · exact ⟨(y 1).val / 4, show _ < 16 by omega, show (y 1).val = (y 1).val % 4 + 4 * ((y 1).val / 4) by omega⟩
  · exact ⟨(y 2).val, (y 2).isLt, show (y 2).val = 0 + 1 * (y 2).val by omega⟩

/-- The scratch read back after a strip, whatever was stored before. -/
theorem strip4_read (arg7 : Memref sig .tc .vmem S16x64x128 .f32) (x xd xu : FVec Ideal S4x16x128 .f32) (L : List (View.Piece (Elt Ideal) S16x64x128 .f32)) (y : S16x64x128.Idx) :
    arg7.view.readCov (strip4 x xd xu ++ L) whole.toLoadRect y = scr4 x xd xu (y 0).val (y 1).val (y 2) := by
  rw [View.readCov_eq_canon']
  show View.canon _ (whole.toLoadRect.idx y) = _
  rw [whole_idx y]
  refine View.canon_append_of_piecesOf (fun i : S16x64x128.Idx => scr4 x xd xu (i 0).val (i 1).val (i 2)) L _ ?_ y (strip4_covers x xd xu y)
  repeat' apply And.intro
  all_goals first | exact store4_piece _ _ x xd xu | trivial

end Cert.Hyper

end
-- ==== Proof.PoolMatrix.lean ====
/- The matrix that the pooling region multiplies by: a quarter where the column is half the row, nought elsewhere. -/
module

public import proofs.«01_k».proof.KernelIdeal
public import proofs.«01_k».proof.Proof.StripValue

@[expose] public section

set_option maxRecDepth 16384

noncomputable section

namespace Cert.Hyper

open Cert.KernelIdeal Idealize.ShloMosaic

/-- The words of the table. -/
theorem pool_words : ∀ k : Fin 128, ∀ j : Fin 64, lit0t (64 * k + j) = if k.val / 2 = j.val then 0x3E800000#32 else 0x00000000#32 := by
  decide +kernel

/-- The matrix. -/
def poolMatrix : Vec Ideal S128x64 .f32 := fun i => Ideal.ofBits .f32 (lit0 (S128x64.rowMajor i))

/-- The matrix at an index. -/
theorem poolMatrix_at (k : Fin 128) (j : Fin 64) : poolMatrix (ix2 k j) = if k.val / 2 = j.val then e8 2 else 0 := by
  have h : lit0 (S128x64.rowMajor (ix2 k j)) = lit0t (64 * k + j) := by
    refine congrArg lit0t ?_
    refine (Shape.rowMajor_val_two (ix2 k j : S128x64.Idx)).trans ?_
    show (k : ℕ) * 64 + (j : ℕ) = _
    omega
  unfold poolMatrix
  rw [h, pool_words]
  split
  · exact ofBits_eighths.2.1
  · exact Ideal.ofBits_zero_f32

/-- A row multiplied by a column of the matrix: the two entries at twice the column and after it, each by a quarter. -/
theorem poolMatrix_sum (g : Fin 128 → EReal) (j : Fin 64) :
    ∑ k : Fin 128, g k * poolMatrix (ix2 k j) = g ⟨2 * j, by omega⟩ * e8 2 + g ⟨2 * j + 1, by omega⟩ * e8 2 := by
  rw [Fintype.sum_eq_add (⟨2 * j, by omega⟩ : Fin 128) ⟨2 * j + 1, by omega⟩]
  · rw [poolMatrix_at, poolMatrix_at, if_pos (by dsimp only; omega), if_pos (by dsimp only; omega)]
  · intro h; exact absurd (Fin.mk.inj h) (by omega)
  · intro k hk
    have h : k.val / 2 ≠ j.val := fun h => by
      have h1 : k.val ≠ 2 * j := fun e => hk.1 (Fin.ext e)
      have h2 : k.val ≠ 2 * j + 1 := fun e => hk.2 (Fin.ext e)
      omega
    rw [poolMatrix_at, if_neg h, mul_zero]

end Cert.Hyper

end
-- ==== Proof.Grid0.lean ====
/- The array that the first region leaves: the halved level, every entry the mean of four. -/
module

public import proofs.«01_k».proof.Proof.KernelIdealFrame
public import proofs.«01_k».proof.Proof.PoolMatrix

@[expose] public section

set_option maxRecDepth 16384

noncomputable section

namespace Cert.Hyper

open Cert.KernelIdeal Cert.KernelIdeal.Gen Idealize.ShloMosaic

variable (V : (c : Dev nD) → (b : Ref sig .tc) → Buf (Elt Ideal) ((c.tc : Thread nD τ).loc b))

/-- The mean of four entries, the two of a column added first. -/
def mean4 (a b c d : EReal) : EReal := (a + b) * e8 2 + (c + d) * e8 2

/-- What a grid point stores, at an index, from the two loaded halves of the rows and the matrix. -/
theorem pool_pay (v0 v1 : Vec Ideal S1x96x64x128 .f32) (a : Fin 96) (y x : Fin 64) :
    k0_pay1 v0 v1 poolMatrix (ix4 0 a y x)
      = mean4 (v0 (ix4 0 a y ⟨2 * x, by omega⟩)) (v1 (ix4 0 a y ⟨2 * x, by omega⟩)) (v0 (ix4 0 a y ⟨2 * x + 1, by omega⟩)) (v1 (ix4 0 a y ⟨2 * x + 1, by omega⟩)) := by
  pointwise [k0_pay1]
  exact poolMatrix_sum (fun k => v0 (ix4 0 a y k) + v1 (ix4 0 a y k)) x

/-- Every second row from row `o`, at an index. -/
theorem rows_at (M : Memref sig .tc .vmem S1x96x128x128 .f32) (hM : M.IsWhole) (o : ℕ) (ho : o < 2)
    (h : ∀ a : Fin 4, (![1, 96, 64, 128] : Fin 4 → ℕ) a = 0 ∨ (![0, 0, o, 0] : Fin 4 → ℕ) a + (![1, 1, 2, 1] : Fin 4 → ℕ) a * ((![1, 96, 64, 128] : Fin 4 → ℕ) a - 1) < S1x96x128x128.size a) (x0 : Vec Ideal S1x96x128x128 .f32) (a : Fin 96) (y : Fin 64) (k : Fin 128) :
    View.readAt (Elt Ideal) M.view { off := ![0, 0, o, 0], size := ![1, 96, 64, 128], stride := ![1, 1, 2, 1], inb := h } (hM.unread x0) (ix4 0 a y k)
      = x0 (ix4 0 a ⟨2 * y + o, by omega⟩ k) := by
  show M.view.read (Elt Ideal) (hM.unread x0) _ = _
  rw [hM.read_unread]
  refine congrArg x0 (funext fun a => Fin.ext ?_)
  fin_cases a
  · rfl
  · show 0 + 1 * (_ : ℕ) = _
    dsimp [ix4]
    omega
  · show o + 2 * (_ : ℕ) = _
    dsimp [ix4]
    omega
  · show 0 + 1 * (_ : ℕ) = _
    dsimp [ix4]
    omega

/-- Where every window's block sits at a grid point. -/
theorem idx0 : ∀ t : Fin cfg0.N, win0_0.index t = ![t.val, 0, 0, 0] ∧ win0_1.index t = ![0, 0] ∧ win0_2.index t = ![t.val, 0, 0, 0] :=
  (by decide +kernel : ∀ t : Fin grid0.N, _)

/-- The first window's block, at an index. -/
theorem iblk0_0_at (c : Dev nD) (t : Fin cfg0.N) {b : Fin 4} (hb : b.val = t.val) (a : Fin 96) (y x : Fin 128) :
    iblk0 V c 0 t (ix4 0 a y x : S1x96x128x128.Idx) = (V c main_arg0 : Vec Ideal S4x96x128x128 .f32) (ix4 b a y x) := by
  blk_simp [iblk0]
  refine congrArg (V c main_arg0) ?_
  blk_ext [idx0 t]

/-- The matrix's block is the matrix. -/
theorem iblk0_1_eq (c : Dev nD) (t : Fin cfg0.N) : iblk0 V c 1 t = (V c main_cst : Vec Ideal S128x64 .f32) := by
  funext i
  blk_simp [iblk0]
  refine congrArg (V c main_cst) ?_
  blk_ext [idx0 t]

/-- The halved level, at an index. -/
def pooled (f : Vec Ideal S4x96x128x128 .f32) (b : Fin 4) (a : Fin 96) (y x : Fin 64) : EReal :=
  mean4 (f (ix4 b a ⟨2 * y, by omega⟩ ⟨2 * x, by omega⟩)) (f (ix4 b a ⟨2 * y + 1, by omega⟩ ⟨2 * x, by omega⟩))
    (f (ix4 b a ⟨2 * y, by omega⟩ ⟨2 * x + 1, by omega⟩)) (f (ix4 b a ⟨2 * y + 1, by omega⟩ ⟨2 * x + 1, by omega⟩))

/-- The block a grid point leaves, at an index. -/
theorem outs0_at (c : Dev nD) (hV : V c main_cst = poolMatrix) (t : Fin cfg0.N) {b : Fin 4} (hb : b.val = t.val) (a : Fin 96) (y x : Fin 64) :
    outsAt0 V c t (ix4 0 a y x) = pooled (V c main_arg0) b a y x := by
  unfold outsAt0
  frame_out
  rw [iblk0_1_eq, hV, pool_pay, rows_at _ _ 0 (by decide), rows_at _ _ 1 (by decide), rows_at _ _ 0 (by decide), rows_at _ _ 1 (by decide)]
  simp only [iblk0_0_at V c t hb]
  rfl

/-- The array after every grid point. -/
theorem arr0 (c : Dev nD) (hV : V c main_cst = poolMatrix) : (dat0 V c).arrAt 2 cfg0.N =
    (fun i : S4x96x64x64.Idx => pooled (V c main_arg0) (i 0) (i 1) (i 2) (i 3)) := by
  refine (dat0 V c).arrAt_eq_of_covers 2 _ (by decide +kernel) fun t hf y => ?_
  blk_simp
  rw [after0_2]
  have h : ((win0_2.blk t).view.emb y 0 : ℕ) = t.val ∧ ((win0_2.blk t).view.emb y 1 : ℕ) = (y 1 : ℕ)
      ∧ ((win0_2.blk t).view.emb y 2 : ℕ) = (y 2 : ℕ) ∧ ((win0_2.blk t).view.emb y 3 : ℕ) = (y 3 : ℕ) := by
    blk_simp [idx0 t]
    exact ⟨trivial, trivial, trivial, trivial⟩
  have e : (y : S1x96x64x64.Idx) = ix4 0 (y 1) (y 2) (y 3) :=
    (eq_ix4 (y : S1x96x64x64.Idx)).trans (congrArg (fun a : Fin 1 => (ix4 a (y 1) (y 2) (y 3) : S1x96x64x64.Idx)) (Subsingleton.elim _ _))
  refine (congrArg (outsAt0 V c t) e).trans ((outs0_at V c hV t h.1 (y 1) (y 2) (y 3)).trans ?_)
  exact congr (congr (congrArg _ (Fin.ext h.2.1.symm)) (Fin.ext h.2.2.1.symm)) (Fin.ext h.2.2.2.symm)

end Cert.Hyper

end
-- ==== Proof.Stores.lean ====
/- The stores of a grid point of the second region are the block's stores of Strip.lean, in each of the four cases (the
   first band of rows, the two middle ones, the last one): only the rows read differ. -/
module

public import proofs.«01_k».proof.Proof.KernelIdealFrame
public import proofs.«01_k».proof.Proof.Strip

@[expose] public section

set_option maxRecDepth 16384

noncomputable section

namespace Cert.Hyper

open Cert.KernelIdeal Cert.KernelIdeal.Gen Idealize.ShloMosaic

variable {F : FTy → Type} [FloatOps F]

/-- Eight rows from row `o` of the level of 32, as loaded. -/
abbrev load2 (arg4 : Memref sig .tc .vmem S1x32x32x384 .f32) (harg4 : arg4.IsWhole) (o : ℕ) (h : ∀ a, (![0, o, 0, 0] : Fin 4 → ℕ) a + S1x8x32x384.size a ≤ S1x32x32x384.size a)
    (x2 : Vec F S1x32x32x384 .f32) : Vec F S1x8x32x384 .f32 :=
  View.readAt (Elt F) arg4.view (Rect.unit (s := S1x32x32x384) ![0, o, 0, 0] S1x8x32x384.size h).toLoadRect (harg4.unread x2)

/-- Four rows from row `o` of the level of 16, as loaded. -/
abbrev load4 (arg5 : Memref sig .tc .vmem S1x16x16x768 .f32) (harg5 : arg5.IsWhole) (o : ℕ) (h : ∀ a, (![0, o, 0, 0] : Fin 4 → ℕ) a + S1x4x16x768.size a ≤ S1x16x16x768.size a)
    (x3 : Vec F S1x16x16x768 .f32) : Vec F S1x4x16x768 .f32 :=
  View.readAt (Elt F) arg5.view (Rect.unit (s := S1x16x16x768) ![0, o, 0, 0] S1x4x16x768.size h).toLoadRect (harg5.unread x3)

/-- The pooled block, as loaded, -/
abbrev load0 (arg2 : Memref sig .tc .vmem S1x16x64x96 .f32) (harg2 : arg2.IsWhole) (x0 : Vec F S1x16x64x96 .f32) : Vec F S1x16x64x96 .f32 :=
  View.readAt (Elt F) arg2.view (Rect.unit (s := S1x16x64x96) ![0, 0, 0, 0] S1x16x64x96.size inb_S1x16x64x96_S1x16x64x96_0_0_0_0).toLoadRect (harg2.unread x0)

/-- and the copied one. -/
abbrev load1 (arg3 : Memref sig .tc .vmem S1x16x64x192 .f32) (harg3 : arg3.IsWhole) (x1 : Vec F S1x16x64x192 .f32) : Vec F S1x16x64x192 .f32 :=
  View.readAt (Elt F) arg3.view (Rect.unit (s := S1x16x64x192) ![0, 0, 0, 0] S1x16x64x192.size inb_S1x16x64x192_S1x16x64x192_0_0_0_0).toLoadRect (harg3.unread x1)

/-- The stores of the first band. -/
theorem stores_A (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : cond1_0 i) (hc1 : ¬cond1_1 i) (hc2 : ¬cond1_2 i) (hc3 : ¬cond1_3 i) (hc4 : cond1_4 i) (hc5 : ¬cond1_5 i) (hc6 : ¬cond1_6 i) (hc7 : ¬cond1_7 i)
    (x0 : Vec F S1x16x64x96 .f32) (x1 : Vec F S1x16x64x192 .f32) (x2 : Vec F S1x32x32x384 .f32) (x3 : Vec F S1x16x16x768 .f32) :
    (kernelRun1_A c i arg2 harg2 arg3 harg3 arg4 harg4 arg5 harg5 arg6 harg6 arg7 harg7 hc0 hc1 hc2 hc3 hc4 hc5 hc6 hc7 x0 x1 x2 x3).1 =
      blockStores arg7 (load0 arg2 harg2 x0) (load1 arg3 harg3 x1)
        (rows2 (load2 arg4 harg4 0 inb_S1x32x32x384_S1x8x32x384_0_0_0_0 x2)) (above2 (load2 arg4 harg4 0 inb_S1x32x32x384_S1x8x32x384_0_0_0_0 x2)) (rows2 (load2 arg4 harg4 1 inb_S1x32x32x384_S1x8x32x384_0_1_0_0 x2))
        (rows4 (load4 arg5 harg5 0 inb_S1x16x16x768_S1x4x16x768_0_0_0_0 x3)) (above4 (load4 arg5 harg5 0 inb_S1x16x16x768_S1x4x16x768_0_0_0_0 x3)) (rows4 (load4 arg5 harg5 1 inb_S1x16x16x768_S1x4x16x768_0_1_0_0 x3)) := by
  sl_kernel_rfl

/-- The stores of the second band. -/
theorem stores_B (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : cond1_1 i) (hc2 : ¬cond1_2 i) (hc3 : ¬cond1_3 i) (hc4 : ¬cond1_4 i) (hc5 : cond1_5 i) (hc6 : ¬cond1_6 i) (hc7 : ¬cond1_7 i)
    (x0 : Vec F S1x16x64x96 .f32) (x1 : Vec F S1x16x64x192 .f32) (x2 : Vec F S1x32x32x384 .f32) (x3 : Vec F S1x16x16x768 .f32) :
    (kernelRun1_B c i arg2 harg2 arg3 harg3 arg4 harg4 arg5 harg5 arg6 harg6 arg7 harg7 hc0 hc1 hc2 hc3 hc4 hc5 hc6 hc7 x0 x1 x2 x3).1 =
      blockStores arg7 (load0 arg2 harg2 x0) (load1 arg3 harg3 x1)
        (rows2 (load2 arg4 harg4 8 inb_S1x32x32x384_S1x8x32x384_0_8_0_0 x2)) (rows2 (load2 arg4 harg4 7 inb_S1x32x32x384_S1x8x32x384_0_7_0_0 x2)) (rows2 (load2 arg4 harg4 9 inb_S1x32x32x384_S1x8x32x384_0_9_0_0 x2))
        (rows4 (load4 arg5 harg5 4 inb_S1x16x16x768_S1x4x16x768_0_4_0_0 x3)) (rows4 (load4 arg5 harg5 3 inb_S1x16x16x768_S1x4x16x768_0_3_0_0 x3)) (rows4 (load4 arg5 harg5 5 inb_S1x16x16x768_S1x4x16x768_0_5_0_0 x3)) := by
  sl_kernel_rfl

/-- The stores of the third band. -/
theorem stores_C (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : ¬cond1_1 i) (hc2 : cond1_2 i) (hc3 : ¬cond1_3 i) (hc4 : ¬cond1_4 i) (hc5 : ¬cond1_5 i) (hc6 : cond1_6 i) (hc7 : ¬cond1_7 i)
    (x0 : Vec F S1x16x64x96 .f32) (x1 : Vec F S1x16x64x192 .f32) (x2 : Vec F S1x32x32x384 .f32) (x3 : Vec F S1x16x16x768 .f32) :
    (kernelRun1_C c i arg2 harg2 arg3 harg3 arg4 harg4 arg5 harg5 arg6 harg6 arg7 harg7 hc0 hc1 hc2 hc3 hc4 hc5 hc6 hc7 x0 x1 x2 x3).1 =
      blockStores arg7 (load0 arg2 harg2 x0) (load1 arg3 harg3 x1)
        (rows2 (load2 arg4 harg4 16 inb_S1x32x32x384_S1x8x32x384_0_16_0_0 x2)) (rows2 (load2 arg4 harg4 15 inb_S1x32x32x384_S1x8x32x384_0_15_0_0 x2)) (rows2 (load2 arg4 harg4 17 inb_S1x32x32x384_S1x8x32x384_0_17_0_0 x2))
        (rows4 (load4 arg5 harg5 8 inb_S1x16x16x768_S1x4x16x768_0_8_0_0 x3)) (rows4 (load4 arg5 harg5 7 inb_S1x16x16x768_S1x4x16x768_0_7_0_0 x3)) (rows4 (load4 arg5 harg5 9 inb_S1x16x16x768_S1x4x16x768_0_9_0_0 x3)) := by
  sl_kernel_rfl

/-- The stores of the last band. -/
theorem stores_D (c : Dev nD) (i : grid1.Coords) (arg2 : Memref sig .tc .vmem S1x16x64x96 .f32) (harg2 : arg2.IsWhole) (arg3 : Memref sig .tc .vmem S1x16x64x192 .f32) (harg3 : arg3.IsWhole) (arg4 : Memref sig .tc .vmem S1x32x32x384 .f32) (harg4 : arg4.IsWhole) (arg5 : Memref sig .tc .vmem S1x16x16x768 .f32) (harg5 : arg5.IsWhole) (arg6 : Memref sig .tc .vmem S1x16x64x1440 .f32) (harg6 : arg6.IsWhole) (arg7 : Memref sig .tc .vmem S16x64x128 .f32) (harg7 : arg7.IsWhole) (hc0 : ¬cond1_0 i) (hc1 : ¬cond1_1 i) (hc2 : ¬cond1_2 i) (hc3 : cond1_3 i) (hc4 : ¬cond1_4 i) (hc5 : ¬cond1_5 i) (hc6 : ¬cond1_6 i) (hc7 : cond1_7 i)
    (x0 : Vec F S1x16x64x96 .f32) (x1 : Vec F S1x16x64x192 .f32) (x2 : Vec F S1x32x32x384 .f32) (x3 : Vec F S1x16x16x768 .f32) :
    (kernelRun1_D c i arg2 harg2 arg3 harg3 arg4 harg4 arg5 harg5 arg6 harg6 arg7 harg7 hc0 hc1 hc2 hc3 hc4 hc5 hc6 hc7 x0 x1 x2 x3).1 =
      blockStores arg7 (load0 arg2 harg2 x0) (load1 arg3 harg3 x1)
        (rows2 (load2 arg4 harg4 24 inb_S1x32x32x384_S1x8x32x384_0_24_0_0 x2)) (rows2 (load2 arg4 harg4 23 inb_S1x32x32x384_S1x8x32x384_0_23_0_0 x2)) (below2 (load2 arg4 harg4 24 inb_S1x32x32x384_S1x8x32x384_0_24_0_0 x2))
        (rows4 (load4 arg5 harg5 12 inb_S1x16x16x768_S1x4x16x768_0_12_0_0 x3)) (rows4 (load4 arg5 harg5 11 inb_S1x16x16x768_S1x4x16x768_0_11_0_0 x3)) (below4 (load4 arg5 harg5 12 inb_S1x16x16x768_S1x4x16x768_0_12_0_0 x3)) := by
  sl_kernel_rfl

end Cert.Hyper

end
-- ==== Proof.BlockValue.lean ====
/- What a grid point of the second region leaves in its output block, index by index, from the four blocks it reads: the
   pooled level, the copied one, and the two upsampled ones at the point's band of sixteen rows. -/
module

public import proofs.«01_k».proof.Proof.Stores
public import proofs.«01_k».proof.Proof.StripValue

@[expose] public section

set_option maxRecDepth 16384

noncomputable section

namespace Cert.Hyper

open Cert.KernelIdeal Cert.KernelIdeal.Gen Idealize.ShloMosaic

/-! ## Loads -/

/-- A sample of the level of `n` rows, `n` columns and `C` channels, read at natural numbers; nought outside. -/
def samp {n C : ℕ} (x : Vec Ideal ⟨4, ![1, n, n, C]⟩ .f32) (c : Fin C) (R k : ℕ) : EReal :=
  if h : R < n ∧ k < n then x (ix4 0 ⟨R, h.1⟩ ⟨k, h.2⟩ c) else 0

/-- Eight rows loaded, at an index. -/
theorem load2_at (arg4 : Memref sig .tc .vmem S1x32x32x384 .f32) (harg4 : arg4.IsWhole) (o : ℕ) (h : ∀ a, (![0, o, 0, 0] : Fin 4 → ℕ) a + S1x8x32x384.size a ≤ S1x32x32x384.size a)
    (x2 : Vec Ideal S1x32x32x384 .f32) (i : Fin 8) (k : Fin 32) (c : Fin 384) :
    load2 arg4 harg4 o h x2 (ix4 0 i k c) = samp (n := 32) (C := 384) x2 c (o + i) k := by
  have ho : o + 8 ≤ 32 := h 1
  show arg4.view.read (Elt Ideal) (harg4.unread x2) _ = _
  rw [harg4.read_unread]
  unfold samp
  rw [dif_pos ⟨by omega, k.isLt⟩]
  refine congrArg x2 (funext fun a => Fin.ext ?_)
  fin_cases a
  · rfl
  · show o + 1 * i.val = o + i.val; omega
  · show 0 + 1 * k.val = k.val; omega
  · show 0 + 1 * c.val = c.val; omega

/-- Four rows loaded, at an index. -/
theorem load4_at (arg5 : Memref sig .tc .vmem S1x16x16x768 .f32) (harg5 : arg5.IsWhole) (o : ℕ) (h : ∀ a, (![0, o, 0, 0] : Fin 4 → ℕ) a + S1x4x16x768.size a ≤ S1x16x16x768.size a)
    (x3 : Vec Ideal S1x16x16x768 .f32) (i : Fin 4) (k : Fin 16) (c : Fin 768) :
    load4 arg5 harg5 o h x3 (ix4 0 i k c) = samp (n := 16) (C := 768) x3 c (o + i) k := by
  have ho : o + 4 ≤ 16 := h 1
  show arg5.view.read (Elt Ideal) (harg5.unread x3) _ = _
  rw [harg5.read_unread]
  unfold samp
  rw [dif_pos ⟨by omega, k.isLt⟩]
  refine congrArg x3 (funext fun a => Fin.ext ?_)
  fin_cases a
  · rfl
  · show o + 1 * i.val = o + i.val; omega
  · show 0 + 1 * k.val = k.val; omega
  · show 0 + 1 * c.val = c.val; omega

/-- The pooled block loaded is itself. -/
theorem load0_eq (arg2 : Memref sig .tc .vmem S1x16x64x96 .f32) (harg2 : arg2.IsWhole) (x0 : Vec Ideal S1x16x64x96 .f32) : load0 arg2 harg2 x0 = x0 := by
  funext j
  show arg2.view.read (Elt Ideal) (harg2.unread x0) _ = _
  rw [harg2.read_unread]
  refine congrArg x0 (funext fun a => Fin.ext ?_)
  show (![0, 0, 0, 0] : Fin 4 → ℕ) a + 1 * (j a).val = (j a).val
  fin_cases a <;> simp

/-- The copied block loaded is itself. -/
theorem load1_eq (arg3 : Memref sig .tc .vmem S1x16x64x192 .f32) (harg3 : arg3.IsWhole) (x1 : Vec Ideal S1x16x64x192 .f32) : load1 arg3 harg3 x1 = x1 := by
  funext j
  show arg3.view.read (Elt Ideal) (harg3.unread x1) _ = _
  rw [harg3.read_unread]
  refine congrArg x1 (funext fun a => Fin.ext ?_)
  show (![0, 0, 0, 0] : Fin 4 → ℕ) a + 1 * (j a).val = (j a).val
  fin_cases a <;> simp

/-! ## The rows of a band -/

/-- Three arrays of rows are a band of the level of 32: the rows from `8 h`, those one up, those one down, the level's
    first and last rows repeated at its ends. -/
structure Band2 (h : ℕ) (x2 : Vec Ideal S1x32x32x384 .f32) (x xd xu : FVec Ideal S8x32x384 .f32) : Prop where
  at_x : ∀ (i : Fin 8) (k : Fin 32) (c : Fin 384), x (ix3 i k c) = samp (n := 32) (C := 384) x2 c (8 * h + i) k
  at_d : ∀ (i : Fin 8) (k : Fin 32) (c : Fin 384), xd (ix3 i k c) = samp (n := 32) (C := 384) x2 c (8 * h + i - 1) k
  at_u : ∀ (i : Fin 8) (k : Fin 32) (c : Fin 384), xu (ix3 i k c) = samp (n := 32) (C := 384) x2 c (min (8 * h + i + 1) 31) k

/-- The same for the level of 16, in bands of four rows. -/
structure Band4 (h : ℕ) (x3 : Vec Ideal S1x16x16x768 .f32) (x xd xu : FVec Ideal S4x16x768 .f32) : Prop where
  at_x : ∀ (i : Fin 4) (k : Fin 16) (c : Fin 768), x (ix3 i k c) = samp (n := 16) (C := 768) x3 c (4 * h + i) k
  at_d : ∀ (i : Fin 4) (k : Fin 16) (c : Fin 768), xd (ix3 i k c) = samp (n := 16) (C := 768) x3 c (4 * h + i - 1) k
  at_u : ∀ (i : Fin 4) (k : Fin 16) (c : Fin 768), xu (ix3 i k c) = samp (n := 16) (C := 768) x3 c (min (4 * h + i + 1) 15) k

/-- Rows that are loaded are the samples from the load's first row. -/
theorem rows2_at (v : Vec Ideal S1x8x32x384 .f32) (i : Fin 8) (k : Fin 32) (c : Fin 384) : rows2 v (ix3 i k c) = v (ix4 0 i k c) := by
  pointwise [rows2]

/-- The rows one up of a block, its top row kept. -/
theorem above2_at (v : Vec Ideal S1x8x32x384 .f32) (i : Fin 8) (k : Fin 32) (c : Fin 384) :
    above2 v (ix3 i k c) = v (ix4 0 ⟨i - 1, by omega⟩ k c) := by
  pointwise [above2, rows2]
  split
  · exact congrArg (fun t => v (ix4 0 t k c)) (Fin.ext (show (i : ℕ) = i - 1 by omega))
  · rfl

/-- The rows one down of a block, its bottom row kept. -/
theorem below2_at (v : Vec Ideal S1x8x32x384 .f32) (i : Fin 8) (k : Fin 32) (c : Fin 384) :
    below2 v (ix3 i k c) = v (ix4 0 ⟨min (i + 1) 7, by omega⟩ k c) := by
  pointwise [below2, rows2]
  split
  · exact congrArg (fun t => v (ix4 0 t k c)) (Fin.ext (show 1 + (i : ℕ) = min ((i : ℕ) + 1) 7 by omega))
  · exact congrArg (fun t => v (ix4 0 t k c)) (Fin.ext (show 7 + ((i : ℕ) - 7) = min ((i : ℕ) + 1) 7 by omega))

/-- Rows that are loaded are the samples from the load's first row. -/
theorem rows4_at (v : Vec Ideal S1x4x16x768 .f32) (i : Fin 4) (k : Fin 16) (c : Fin 768) : rows4 v (ix3 i k c) = v (ix4 0 i k c) := by
  pointwise [rows4]

/-- The rows one up of a block, its top row kept. -/
theorem above4_at (v : Vec Ideal S1x4x16x768 .f32) (i : Fin 4) (k : Fin 16) (c : Fin 768) :
    above4 v (ix3 i k c) = v (ix4 0 ⟨i - 1, by omega⟩ k c) := by
  pointwise [above4, rows4]
  split
  · exact congrArg (fun t => v (ix4 0 t k c)) (Fin.ext (show (i : ℕ) = i - 1 by omega))
  · rfl

/-- The rows one down of a block, its bottom row kept. -/
theorem below4_at (v : Vec Ideal S1x4x16x768 .f32) (i : Fin 4) (k : Fin 16) (c : Fin 768) :
    below4 v (ix3 i k c) = v (ix4 0 ⟨min (i + 1) 3, by omega⟩ k c) := by
  pointwise [below4, rows4]
  split
  · exact congrArg (fun t => v (ix4 0 t k c)) (Fin.ext (show 1 + (i : ℕ) = min ((i : ℕ) + 1) 3 by omega))
  · exact congrArg (fun t => v (ix4 0 t k c)) (Fin.ext (show 3 + ((i : ℕ) - 3) = min ((i : ℕ) + 1) 3 by omega))

/-- The bands of rows that the four cases read, at the level of 32. -/
theorem bands2 (arg4 : Memref sig .tc .vmem S1x32x32x384 .f32) (harg4 : arg4.IsWhole) (x2 : Vec Ideal S1x32x32x384 .f32) :
    Band2 0 x2 (rows2 (load2 arg4 harg4 0 inb_S1x32x32x384_S1x8x32x384_0_0_0_0 x2)) (above2 (load2 arg4 harg4 0 inb_S1x32x32x384_S1x8x32x384_0_0_0_0 x2)) (rows2 (load2 arg4 harg4 1 inb_S1x32x32x384_S1x8x32x384_0_1_0_0 x2))
    ∧ Band2 1 x2 (rows2 (load2 arg4 harg4 8 inb_S1x32x32x384_S1x8x32x384_0_8_0_0 x2)) (rows2 (load2 arg4 harg4 7 inb_S1x32x32x384_S1x8x32x384_0_7_0_0 x2)) (rows2 (load2 arg4 harg4 9 inb_S1x32x32x384_S1x8x32x384_0_9_0_0 x2))
    ∧ Band2 2 x2 (rows2 (load2 arg4 harg4 16 inb_S1x32x32x384_S1x8x32x384_0_16_0_0 x2)) (rows2 (load2 arg4 harg4 15 inb_S1x32x32x384_S1x8x32x384_0_15_0_0 x2)) (rows2 (load2 arg4 harg4 17 inb_S1x32x32x384_S1x8x32x384_0_17_0_0 x2))
    ∧ Band2 3 x2 (rows2 (load2 arg4 harg4 24 inb_S1x32x32x384_S1x8x32x384_0_24_0_0 x2)) (rows2 (load2 arg4 harg4 23 inb_S1x32x32x384_S1x8x32x384_0_23_0_0 x2)) (below2 (load2 arg4 harg4 24 inb_S1x32x32x384_S1x8x32x384_0_24_0_0 x2)) := by
  refine ⟨⟨?_, ?_, ?_⟩, ⟨?_, ?_, ?_⟩, ⟨?_, ?_, ?_⟩, ⟨?_, ?_, ?_⟩⟩ <;> intro i k c
  all_goals
    first | rw [rows2_at] | rw [above2_at] | rw [below2_at]
    refine (load2_at _ _ _ _ _ _ _ _).trans (congrArg (fun R => samp (n := 32) (C := 384) x2 c R k) ?_)
    first | omega | (dsimp only; omega)

/-- The bands of rows that the four cases read, at the level of 16. -/
theorem bands4 (arg5 : Memref sig .tc .vmem S1x16x16x768 .f32) (harg5 : arg5.IsWhole) (x3 : Vec Ideal S1x16x16x768 .f32) :
    Band4 0 x3 (rows4 (load4 arg5 harg5 0 inb_S1x16x16x768_S1x4x16x768_0_0_0_0 x3)) (above4 (load4 arg5 harg5 0 inb_S1x16x16x768_S1x4x16x768_0_0_0_0 x3)) (rows4 (load4 arg5 harg5 1 inb_S1x16x16x768_S1x4x16x768_0_1_0_0 x3))
    ∧ Band4 1 x3 (rows4 (load4 arg5 harg5 4 inb_S1x16x16x768_S1x4x16x768_0_4_0_0 x3)) (rows4 (load4 arg5 harg5 3 inb_S1x16x16x768_S1x4x16x768_0_3_0_0 x3)) (rows4 (load4 arg5 harg5 5 inb_S1x16x16x768_S1x4x16x768_0_5_0_0 x3))
    ∧ Band4 2 x3 (rows4 (load4 arg5 harg5 8 inb_S1x16x16x768_S1x4x16x768_0_8_0_0 x3)) (rows4 (load4 arg5 harg5 7 inb_S1x16x16x768_S1x4x16x768_0_7_0_0 x3)) (rows4 (load4 arg5 harg5 9 inb_S1x16x16x768_S1x4x16x768_0_9_0_0 x3))
    ∧ Band4 3 x3 (rows4 (load4 arg5 harg5 12 inb_S1x16x16x768_S1x4x16x768_0_12_0_0 x3)) (rows4 (load4 arg5 harg5 11 inb_S1x16x16x768_S1x4x16x768_0_11_0_0 x3)) (below4 (load4 arg5 harg5 12 inb_S1x16x16x768_S1x4x16x768_0_12_0_0 x3)) := by
  refine ⟨⟨?_, ?_, ?_⟩, ⟨?_, ?_, ?_⟩, ⟨?_, ?_, ?_⟩, ⟨?_, ?_, ?_⟩⟩ <;> intro i k c
  all_goals
    first | rw [rows4_at] | rw [above4_at] | rw [below4_at]
    refine (load4_at _ _ _ _ _ _ _ _).trans (congrArg (fun R => samp (n := 16) (C := 768) x3 c R k) ?_)
    first | omega | (dsimp only; omega)

/-! ## The strips of a band -/

/-- A strip cut from an array of rows, read at natural numbers, when the array holds samples. -/
theorem tot_cut2 (x2 : Vec Ideal S1x32x32x384 .f32) (v : FVec Ideal S8x32x384 .f32) (R : ℕ → ℕ)
    (hv : ∀ (i : Fin 8) (k : Fin 32) (c : Fin 384), v (ix3 i k c) = samp (n := 32) (C := 384) x2 c (R i) k)
    (t : Fin 3) (i : Fin 8) (k : ℕ) (c : Fin 128) :
    tot (cut2 t v) i k c = samp (n := 32) (C := 384) x2 ⟨128 * t + c, by omega⟩ (R i) k := by
  unfold tot
  split
  · rename_i h
    rw [← hv i ⟨k, h.2⟩ ⟨128 * t + c, by omega⟩]
    pointwise [cut2]
  · rename_i h
    unfold samp
    rw [dif_neg (by have := i.isLt; tauto)]

/-- The same at the level of 16. -/
theorem tot_cut4 (x3 : Vec Ideal S1x16x16x768 .f32) (v : FVec Ideal S4x16x768 .f32) (R : ℕ → ℕ)
    (hv : ∀ (i : Fin 4) (k : Fin 16) (c : Fin 768), v (ix3 i k c) = samp (n := 16) (C := 768) x3 c (R i) k)
    (t : Fin 6) (i : Fin 4) (k : ℕ) (c : Fin 128) :
    tot (cut4 t v) i k c = samp (n := 16) (C := 768) x3 ⟨128 * t + c, by omega⟩ (R i) k := by
  unfold tot
  split
  · rename_i h
    rw [← hv i ⟨k, h.2⟩ ⟨128 * t + c, by omega⟩]
    pointwise [cut4]
  · rename_i h
    unfold samp
    rw [dif_neg (by have := i.isLt; tauto)]

/-- The scratch after a strip of the level of 32 is that level resized, at the band's sixteen rows. -/
theorem scr2_eq {h : ℕ} (hh : h < 4) {x2 : Vec Ideal S1x32x32x384 .f32} {x xd xu : FVec Ideal S8x32x384 .f32} (B : Band2 h x2 x xd xu)
    (t : Fin 3) (y z : ℕ) (hy : y < 16) (hz : z < 64) (c : Fin 128) :
    scr2 (cut2 t x) (cut2 t xd) (cut2 t xu) y z c
      = lerp 32 2 z fun k => lerp 32 2 (16 * h + y) fun R => samp (n := 32) (C := 384) x2 ⟨128 * t + c, by omega⟩ R k := by
  have hr (k : ℕ) : e8 (wt 2 (y % 2)) * tot (if y % 2 < 1 then cut2 t xd else cut2 t xu) (y / 2) k c + e8 (8 - wt 2 (y % 2)) * tot (cut2 t x) (y / 2) k c
      = lerp 32 2 (16 * h + y) fun R => samp (n := 32) (C := 384) x2 ⟨128 * t + c, by omega⟩ R k := by
    have e : 16 * h + y = 2 * (8 * h + y / 2) + y % 2 := by omega
    rw [e, ← up_two _ _ (by omega) (by omega)]
    unfold up
    rw [show tot (cut2 t x) (y / 2) k c = _ from tot_cut2 x2 x (8 * h + ·) B.at_x t ⟨y / 2, by omega⟩ k c]
    congr 2
    unfold nb
    by_cases hp : y % 2 < 1
    · rw [if_pos hp, if_pos (show y % 2 < 2 / 2 by omega)]
      exact tot_cut2 x2 xd (8 * h + · - 1) B.at_d t ⟨y / 2, by omega⟩ k c
    · rw [if_neg hp, if_neg (show ¬ y % 2 < 2 / 2 by omega)]
      exact tot_cut2 x2 xu (fun i => min (8 * h + i + 1) 31) B.at_u t ⟨y / 2, by omega⟩ k c
  unfold scr2
  rw [show z = 2 * (z / 2) + z % 2 by omega, ← up_two _ _ (by omega) (by omega)]
  simp only [hr]
  rw [show (2 * (z / 2) + z % 2) % 2 = z % 2 by omega, show (2 * (z / 2) + z % 2) / 2 = z / 2 by omega]

/-- The scratch after a strip of the level of 16 is that level resized, at the band's sixteen rows. -/
theorem scr4_eq {h : ℕ} (hh : h < 4) {x3 : Vec Ideal S1x16x16x768 .f32} {x xd xu : FVec Ideal S4x16x768 .f32} (B : Band4 h x3 x xd xu)
    (t : Fin 6) (y z : ℕ) (hy : y < 16) (hz : z < 64) (c : Fin 128) :
    scr4 (cut4 t x) (cut4 t xd) (cut4 t xu) y z c
      = lerp 16 1 z fun k => lerp 16 1 (16 * h + y) fun R => samp (n := 16) (C := 768) x3 ⟨128 * t + c, by omega⟩ R k := by
  have hr (k : ℕ) : e8 (wt 4 (y % 4)) * tot (if y % 4 < 2 then cut4 t xd else cut4 t xu) (y / 4) k c + e8 (8 - wt 4 (y % 4)) * tot (cut4 t x) (y / 4) k c
      = lerp 16 1 (16 * h + y) fun R => samp (n := 16) (C := 768) x3 ⟨128 * t + c, by omega⟩ R k := by
    have e : 16 * h + y = 4 * (4 * h + y / 4) + y % 4 := by omega
    rw [e, ← up_four _ _ (by omega) (by omega)]
    unfold up
    rw [show tot (cut4 t x) (y / 4) k c = _ from tot_cut4 x3 x (4 * h + ·) B.at_x t ⟨y / 4, by omega⟩ k c]
    congr 2
    unfold nb
    by_cases hp : y % 4 < 2
    · rw [if_pos hp, if_pos (show y % 4 < 4 / 2 by omega)]
      exact tot_cut4 x3 xd (4 * h + · - 1) B.at_d t ⟨y / 4, by omega⟩ k c
    · rw [if_neg hp, if_neg (show ¬ y % 4 < 4 / 2 by omega)]
      exact tot_cut4 x3 xu (fun i => min (4 * h + i + 1) 15) B.at_u t ⟨y / 4, by omega⟩ k c
  unfold scr4
  rw [show z = 4 * (z / 4) + z % 4 by omega, ← up_four _ _ (by omega) (by omega)]
  simp only [hr]
  rw [show (4 * (z / 4) + z % 4) % 4 = z % 4 by omega, show (4 * (z / 4) + z % 4) / 4 = z / 4 by omega]

/-! ## The block -/

/-- The strip in the output block's shape, at an index. -/
theorem back_at (arg7 : Memref sig .tc .vmem S16x64x128 .f32) (L : List (View.Piece (Elt Ideal) S16x64x128 .f32)) (y : Fin 16) (z : Fin 64) (c : Fin 128) :
    back arg7 L (ix4 0 y z c) = arg7.view.readCov L whole.toLoadRect (ix3 y z c) := by
  unfold back
  generalize arg7.view.readCov L whole.toLoadRect = w
  pointwise

/-- A grid point's output block: the pooled block, the copied block, and the two levels resized at the band's rows. -/
def blockVal (h : ℕ) (x0 : Vec Ideal S1x16x64x96 .f32) (x1 : Vec Ideal S1x16x64x192 .f32) (x2 : Vec Ideal S1x32x32x384 .f32) (x3 : Vec Ideal S1x16x16x768 .f32)
    (y : Fin 16) (z : Fin 64) (c : Fin 1440) : EReal :=
  if h0 : c.val < 96 then x0 (ix4 0 y z ⟨c, h0⟩)
  else if h1 : c.val < 288 then x1 (ix4 0 y z ⟨c - 96, by omega⟩)
  else if h2 : c.val < 672 then lerp 32 2 z fun k => lerp 32 2 (16 * h + y) fun R => samp (n := 32) (C := 384) x2 ⟨c - 288, by omega⟩ R k
  else lerp 16 1 z fun k => lerp 16 1 (16 * h + y) fun R => samp (n := 16) (C := 768) x3 ⟨c - 672, by omega⟩ R k

/-- One strip of the level of 32 laid in the block is that block's part. -/
theorem lay2_piece {h : ℕ} (hh : h < 4) (x0 : Vec Ideal S1x16x64x96 .f32) (x1 : Vec Ideal S1x16x64x192 .f32) {x2 : Vec Ideal S1x32x32x384 .f32} (x3 : Vec Ideal S1x16x16x768 .f32)
    {x xd xu : FVec Ideal S8x32x384 .f32} (B : Band2 h x2 x xd xu) (arg7 : Memref sig .tc .vmem S16x64x128 .f32) (k : ℕ) (hk : k < 3) (lo : ℕ) (hlo : lo = 288 + 128 * k) (hl)
    (j : S1x16x64x128.Idx) :
    (lay lo hl (back arg7 (log2 x xd xu (k + 1)))).2 j = (fun i : S1x16x64x1440.Idx => blockVal h x0 x1 x2 x3 (i 1) (i 2) (i 3)) ((lay lo hl (back arg7 (log2 x xd xu (k + 1)))).1.emb j) := by
  obtain ⟨a, y, z, c, rfl⟩ : ∃ (a : Fin 1) (y : Fin 16) (z : Fin 64) (c : Fin 128), j = ix4 a y z c := ⟨j 0, j 1, j 2, j 3, eq_ix4 j⟩
  obtain rfl : a = 0 := Subsingleton.elim _ _
  have e : (lay lo hl (back arg7 (log2 x xd xu (k + 1)))).1.emb (ix4 0 y z c) = (ix4 0 y z ⟨288 + 128 * k + c, by omega⟩ : S1x16x64x1440.Idx) := by
    funext a
    refine Fin.ext ?_
    fin_cases a
    · rfl
    · show 0 + 1 * y.val = y.val; omega
    · show 0 + 1 * z.val = z.val; omega
    · show lo + 1 * c.val = 288 + 128 * k + c.val; omega
  rw [e]
  show back (F := Ideal) arg7 (log2 x xd xu (k + 1)) (ix4 0 y z c) = blockVal h x0 x1 x2 x3 y z ⟨288 + 128 * k + c, by omega⟩
  rw [back_at, log2, strip2_read]
  show scr2 _ _ _ y.val z.val c = _
  rw [scr2_eq hh B _ _ _ y.isLt z.isLt]
  unfold blockVal
  rw [dif_neg (by dsimp only; omega), dif_neg (by dsimp only; omega), dif_pos (by dsimp only; omega)]
  have hc : (⟨128 * (Fin.ofNat 3 k : Fin 3).val + c.val, by omega⟩ : Fin 384) = ⟨288 + 128 * k + c.val - 288, by omega⟩ :=
    Fin.ext (by show 128 * (k % 3) + c.val = _; dsimp only; omega)
  rw [hc]

/-- One strip of the level of 16 laid in the block is that block's part. -/
theorem lay4_piece {h : ℕ} (hh : h < 4) (x0 : Vec Ideal S1x16x64x96 .f32) (x1 : Vec Ideal S1x16x64x192 .f32) (x2 : Vec Ideal S1x32x32x384 .f32) {x3 : Vec Ideal S1x16x16x768 .f32}
    {x xd xu : FVec Ideal S4x16x768 .f32} (B : Band4 h x3 x xd xu) (arg7 : Memref sig .tc .vmem S16x64x128 .f32) (L : List (View.Piece (Elt Ideal) S16x64x128 .f32))
    (k : ℕ) (hk : k < 6) (lo : ℕ) (hlo : lo = 672 + 128 * k) (hl) (j : S1x16x64x128.Idx) :
    (lay lo hl (back arg7 (log4 L x xd xu (k + 1)))).2 j = (fun i : S1x16x64x1440.Idx => blockVal h x0 x1 x2 x3 (i 1) (i 2) (i 3)) ((lay lo hl (back arg7 (log4 L x xd xu (k + 1)))).1.emb j) := by
  obtain ⟨a, y, z, c, rfl⟩ : ∃ (a : Fin 1) (y : Fin 16) (z : Fin 64) (c : Fin 128), j = ix4 a y z c := ⟨j 0, j 1, j 2, j 3, eq_ix4 j⟩
  obtain rfl : a = 0 := Subsingleton.elim _ _
  have e : (lay lo hl (back arg7 (log4 L x xd xu (k + 1)))).1.emb (ix4 0 y z c) = (ix4 0 y z ⟨672 + 128 * k + c, by omega⟩ : S1x16x64x1440.Idx) := by
    funext a
    refine Fin.ext ?_
    fin_cases a
    · rfl
    · show 0 + 1 * y.val = y.val; omega
    · show 0 + 1 * z.val = z.val; omega
    · show lo + 1 * c.val = 672 + 128 * k + c.val; omega
  rw [e]
  show back (F := Ideal) arg7 (log4 L x xd xu (k + 1)) (ix4 0 y z c) = blockVal h x0 x1 x2 x3 y z ⟨672 + 128 * k + c, by omega⟩
  rw [back_at, log4, strip4_read]
  show scr4 _ _ _ y.val z.val c = _
  rw [scr4_eq hh B _ _ _ y.isLt z.isLt]
  unfold blockVal
  rw [dif_neg (by dsimp only; omega), dif_neg (by dsimp only; omega), dif_neg (by dsimp only; omega)]
  have hc : (⟨128 * (Fin.ofNat 6 k : Fin 6).val + c.val, by omega⟩ : Fin 768) = ⟨672 + 128 * k + c.val - 672, by omega⟩ :=
    Fin.ext (by show 128 * (k % 6) + c.val = _; dsimp only; omega)
  rw [hc]

/-- The pooled block laid in the output block. -/
theorem pool_piece (h : ℕ) (x0 : Vec Ideal S1x16x64x96 .f32) (x1 : Vec Ideal S1x16x64x192 .f32) (x2 : Vec Ideal S1x32x32x384 .f32) (x3 : Vec Ideal S1x16x16x768 .f32)
    (j : S1x16x64x96.Idx) :
    shapeCast S1x16x64x96 x0 shapeCasts_S1x16x64x96_S1x16x64x96 j
      = (fun i : S1x16x64x1440.Idx => blockVal h x0 x1 x2 x3 (i 1) (i 2) (i 3)) ((Rect.unit (s := S1x16x64x1440) ![0, 0, 0, 0] S1x16x64x96.size inb_S1x16x64x1440_S1x16x64x96_0_0_0_0).emb j) := by
  obtain ⟨a, y, z, c, rfl⟩ : ∃ (a : Fin 1) (y : Fin 16) (z : Fin 64) (c : Fin 96), j = ix4 a y z c := ⟨j 0, j 1, j 2, j 3, eq_ix4 j⟩
  obtain rfl : a = 0 := Subsingleton.elim _ _
  have e : (Rect.unit (s := S1x16x64x1440) ![0, 0, 0, 0] S1x16x64x96.size inb_S1x16x64x1440_S1x16x64x96_0_0_0_0).emb (ix4 0 y z c) = (ix4 0 y z ⟨c, by omega⟩ : S1x16x64x1440.Idx) := by
    funext a
    refine Fin.ext ?_
    fin_cases a
    · rfl
    · show 0 + 1 * y.val = y.val; omega
    · show 0 + 1 * z.val = z.val; omega
    · show 0 + 1 * c.val = c.val; omega
  rw [e]
  show _ = blockVal h x0 x1 x2 x3 y z ⟨c, by omega⟩
  unfold blockVal
  rw [dif_pos (by dsimp only; omega)]
  pointwise

/-- The copied block laid in the output block. -/
theorem copy_piece (h : ℕ) (x0 : Vec Ideal S1x16x64x96 .f32) (x1 : Vec Ideal S1x16x64x192 .f32) (x2 : Vec Ideal S1x32x32x384 .f32) (x3 : Vec Ideal S1x16x16x768 .f32)
    (j : S1x16x64x192.Idx) :
    shapeCast S1x16x64x192 x1 shapeCasts_S1x16x64x192_S1x16x64x192 j
      = (fun i : S1x16x64x1440.Idx => blockVal h x0 x1 x2 x3 (i 1) (i 2) (i 3)) ((Rect.unit (s := S1x16x64x1440) ![0, 0, 0, 96] S1x16x64x192.size inb_S1x16x64x1440_S1x16x64x192_0_0_0_96).emb j) := by
  obtain ⟨a, y, z, c, rfl⟩ : ∃ (a : Fin 1) (y : Fin 16) (z : Fin 64) (c : Fin 192), j = ix4 a y z c := ⟨j 0, j 1, j 2, j 3, eq_ix4 j⟩
  obtain rfl : a = 0 := Subsingleton.elim _ _
  have e : (Rect.unit (s := S1x16x64x1440) ![0, 0, 0, 96] S1x16x64x192.size inb_S1x16x64x1440_S1x16x64x192_0_0_0_96).emb (ix4 0 y z c) = (ix4 0 y z ⟨96 + c, by omega⟩ : S1x16x64x1440.Idx) := by
    funext a
    refine Fin.ext ?_
    fin_cases a
    · rfl
    · show 0 + 1 * y.val = y.val; omega
    · show 0 + 1 * z.val = z.val; omega
    · show 96 + 1 * c.val = 96 + c.val; omega
  rw [e]
  show _ = blockVal h x0 x1 x2 x3 y z ⟨96 + c, by omega⟩
  unfold blockVal
  rw [dif_neg (by dsimp only; omega), dif_pos (by dsimp only; omega)]
  pointwise

/-- The eleven stores of a block leave its value at every index. -/
theorem block_at {h : ℕ} (hh : h < 4) (arg7 : Memref sig .tc .vmem S16x64x128 .f32) (x0 : Vec Ideal S1x16x64x96 .f32) (x1 : Vec Ideal S1x16x64x192 .f32)
    {x2 : Vec Ideal S1x32x32x384 .f32} {x3 : Vec Ideal S1x16x16x768 .f32} {x xd xu : FVec Ideal S8x32x384 .f32} (B2 : Band2 h x2 x xd xu)
    {z zd zu : FVec Ideal S4x16x768 .f32} (B4 : Band4 h x3 z zd zu) (i : S1x16x64x1440.Idx) :
    View.canon (Val := Elt Ideal) (e := .f32) (blockStores arg7 x0 x1 x xd xu z zd zu) i = blockVal h x0 x1 x2 x3 (i 1) (i 2) (i 3) := by
  rw [← List.append_nil (blockStores arg7 x0 x1 x xd xu z zd zu)]
  refine View.canon_append_of_piecesOf (Val := Elt Ideal) (e := .f32) (fun i : S1x16x64x1440.Idx => blockVal h x0 x1 x2 x3 (i 1) (i 2) (i 3)) [] _ ?_ i
    (View.cover_of_tiledBy _ ![1, 16, 64, 32] (by sl_kernel_rfl) i)
  exact ⟨lay4_piece hh x0 x1 x2 B4 arg7 _ 5 (by decide) _ rfl _, lay4_piece hh x0 x1 x2 B4 arg7 _ 4 (by decide) _ rfl _,
    lay4_piece hh x0 x1 x2 B4 arg7 _ 3 (by decide) _ rfl _, lay4_piece hh x0 x1 x2 B4 arg7 _ 2 (by decide) _ rfl _,
    lay4_piece hh x0 x1 x2 B4 arg7 _ 1 (by decide) _ rfl _, lay4_piece hh x0 x1 x2 B4 arg7 _ 0 (by decide) _ rfl _,
    lay2_piece hh x0 x1 x3 B2 arg7 2 (by decide) _ rfl _, lay2_piece hh x0 x1 x3 B2 arg7 1 (by decide) _ rfl _,
    lay2_piece hh x0 x1 x3 B2 arg7 0 (by decide) _ rfl _, copy_piece h x0 x1 x2 x3, pool_piece h x0 x1 x2 x3, trivial⟩

end Cert.Hyper

end
-- ==== Proof.Grid1.lean ====
/- The array that the second region leaves: at every index, the pooled level, the copied one, or one of the two upsampled
   ones, read from the four arrays that the region finds. -/
module

public import proofs.«01_k».proof.Proof.BlockValue

@[expose] public section

set_option maxRecDepth 16384

noncomputable section

namespace Cert.Hyper

open Cert.KernelIdeal Cert.KernelIdeal.Gen Idealize.ShloMosaic

variable (V : (c : Dev nD) → (b : Ref sig .tc) → Buf (Elt Ideal) ((c.tc : Thread nD τ).loc b))

/-! ## A grid point's block -/

/-- The block a grid point leaves, at an index, from the four blocks it reads. -/
theorem outs1_at (c : Dev nD) (t : Fin cfg1.N) (i : S1x16x64x1440.Idx) :
    outsAt1 V c t.val t.isLt i = blockVal (t.val % 4) (iblk1 V c 0 t) (iblk1 V c 1 t) (iblk1 V c 2 t) (iblk1 V c 3 t) (i 1) (i 2) (i 3) := by
  have h4 : t.val % 4 < 4 := Nat.mod_lt _ (by decide)
  obtain h | h | h | h : t.val % 4 = 0 ∨ t.val % 4 = 1 ∨ t.val % 4 = 2 ∨ t.val % 4 = 3 := by omega
  · rw [h, outsAt1_A V c t h (by omega) (by omega) (by omega) h (by omega) (by omega) (by omega)]
    unfold out1_A_4
    rw [View.read_writes_junk_eq_canon, stores_A, load0_eq, load1_eq]
    exact block_at (by decide) _ _ _ (bands2 _ _ _).1 (bands4 _ _ _).1 i
  · rw [h, outsAt1_B V c t (by omega) h (by omega) (by omega) (by omega) h (by omega) (by omega)]
    unfold out1_B_4
    rw [View.read_writes_junk_eq_canon, stores_B, load0_eq, load1_eq]
    exact block_at (by decide) _ _ _ (bands2 _ _ _).2.1 (bands4 _ _ _).2.1 i
  · rw [h, outsAt1_C V c t (by omega) (by omega) h (by omega) (by omega) (by omega) h (by omega)]
    unfold out1_C_4
    rw [View.read_writes_junk_eq_canon, stores_C, load0_eq, load1_eq]
    exact block_at (by decide) _ _ _ (bands2 _ _ _).2.2.1 (bands4 _ _ _).2.2.1 i
  · rw [h, outsAt1_D V c t (by omega) (by omega) (by omega) h (by omega) (by omega) (by omega) h]
    unfold out1_D_4
    rw [View.read_writes_junk_eq_canon, stores_D, load0_eq, load1_eq]
    exact block_at (by decide) _ _ _ (bands2 _ _ _).2.2.2 (bands4 _ _ _).2.2.2 i

/-! ## The array -/

/-- A sample of a batch of levels with channels last, read at natural numbers; nought outside. -/
def grid {n C : ℕ} (p : Vec Ideal ⟨4, ![4, n, n, C]⟩ .f32) (b : Fin 4) (c : Fin C) (R k : ℕ) : EReal :=
  if h : R < n ∧ k < n then p (ix4 b ⟨R, h.1⟩ ⟨k, h.2⟩ c) else 0

/-- The hypercolumns of four batches of levels, channels last, at a row, a column and a channel. -/
def joined (p0 : Vec Ideal S4x64x64x96 .f32) (p1 : Vec Ideal S4x64x64x192 .f32) (p2 : Vec Ideal S4x32x32x384 .f32) (p3 : Vec Ideal S4x16x16x768 .f32)
    (b : Fin 4) (y z : Fin 64) (c : Fin 1440) : EReal :=
  if h0 : c.val < 96 then p0 (ix4 b y z ⟨c, h0⟩)
  else if h1 : c.val < 288 then p1 (ix4 b y z ⟨c - 96, by omega⟩)
  else if h2 : c.val < 672 then lerp 32 2 z fun k => lerp 32 2 y fun R => grid (n := 32) (C := 384) p2 b ⟨c - 288, by omega⟩ R k
  else lerp 16 1 z fun k => lerp 16 1 y fun R => grid (n := 16) (C := 768) p3 b ⟨c - 672, by omega⟩ R k

/-- Where every window's block sits at a grid point. -/
theorem idx1 : ∀ t : Fin cfg1.N, win1_0.index t = ![t.val / 4, t.val % 4, 0, 0] ∧ win1_1.index t = ![t.val / 4, t.val % 4, 0, 0]
    ∧ win1_2.index t = ![t.val / 4, 0, 0, 0] ∧ win1_3.index t = ![t.val / 4, 0, 0, 0] ∧ win1_4.index t = ![t.val / 4, t.val % 4, 0, 0] :=
  (by decide +kernel : ∀ t : Fin grid1.N, _)

/-- The first window's block, at an index. -/
theorem iblk1_0_at (c : Dev nD) (t : Fin cfg1.N) {b : Fin 4} (hb : b.val = t.val / 4) {Y : Fin 64} {y : Fin 16} (hY : Y.val = 16 * (t.val % 4) + y) (z : Fin 64) (k : Fin 96) :
    iblk1 V c 0 t (ix4 0 y z k : S1x16x64x96.Idx) = (V c main_v1 : Vec Ideal S4x64x64x96 .f32) (ix4 b Y z k) := by
  blk_simp [iblk1]
  refine congrArg (V c main_v1) ?_
  blk_ext [idx1 t]

/-- The second window's block, at an index. -/
theorem iblk1_1_at (c : Dev nD) (t : Fin cfg1.N) {b : Fin 4} (hb : b.val = t.val / 4) {Y : Fin 64} {y : Fin 16} (hY : Y.val = 16 * (t.val % 4) + y) (z : Fin 64) (k : Fin 192) :
    iblk1 V c 1 t (ix4 0 y z k : S1x16x64x192.Idx) = (V c main_v2 : Vec Ideal S4x64x64x192 .f32) (ix4 b Y z k) := by
  blk_simp [iblk1]
  refine congrArg (V c main_v2) ?_
  blk_ext [idx1 t]

/-- A sample of the third window's block. -/
theorem samp1_2 (c : Dev nD) (t : Fin cfg1.N) {b : Fin 4} (hb : b.val = t.val / 4) (k : Fin 384) (R x : ℕ) :
    samp (n := 32) (C := 384) (iblk1 V c 2 t) k R x = grid (n := 32) (C := 384) (V c main_v3) b k R x := by
  unfold samp grid
  split
  · blk_simp [iblk1]
    refine congrArg (V c main_v3) ?_
    blk_ext [idx1 t]
  · rfl

/-- A sample of the last window's block. -/
theorem samp1_3 (c : Dev nD) (t : Fin cfg1.N) {b : Fin 4} (hb : b.val = t.val / 4) (k : Fin 768) (R x : ℕ) :
    samp (n := 16) (C := 768) (iblk1 V c 3 t) k R x = grid (n := 16) (C := 768) (V c main_v4) b k R x := by
  unfold samp grid
  split
  · blk_simp [iblk1]
    refine congrArg (V c main_v4) ?_
    blk_ext [idx1 t]
  · rfl

/-- A grid point's block is its part of the array. -/
theorem block_joined (c : Dev nD) (t : Fin cfg1.N) {b : Fin 4} (hb : b.val = t.val / 4) {Y : Fin 64} {y : Fin 16} (hY : Y.val = 16 * (t.val % 4) + y) (z : Fin 64) (k : Fin 1440) :
    blockVal (t.val % 4) (iblk1 V c 0 t) (iblk1 V c 1 t) (iblk1 V c 2 t) (iblk1 V c 3 t) y z k
      = joined (V c main_v1) (V c main_v2) (V c main_v3) (V c main_v4) b Y z k := by
  unfold blockVal joined
  split
  · exact iblk1_0_at V c t hb hY z _
  split
  · exact iblk1_1_at V c t hb hY z _
  rw [← hY]
  split
  · simp only [samp1_2 V c t hb]
  · simp only [samp1_3 V c t hb]

/-- The array after every grid point. -/
theorem arr1 (c : Dev nD) : (dat1 V c).arrAt 4 cfg1.N =
    (fun i : S4x64x64x1440.Idx => joined (V c main_v1) (V c main_v2) (V c main_v3) (V c main_v4) (i 0) (i 1) (i 2) (i 3)) := by
  refine (dat1 V c).arrAt_eq_of_covers 4 _ (by decide +kernel) fun t hf y => ?_
  blk_simp
  rw [after1_4, outs1_at]
  have h : ((win1_4.blk t).view.emb y 0 : ℕ) = t.val / 4 ∧ ((win1_4.blk t).view.emb y 1 : ℕ) = 16 * (t.val % 4) + (y 1 : ℕ)
      ∧ ((win1_4.blk t).view.emb y 2 : ℕ) = (y 2 : ℕ) ∧ ((win1_4.blk t).view.emb y 3 : ℕ) = (y 3 : ℕ) := by
    blk_simp [idx1 t]
    exact ⟨trivial, by omega, trivial, trivial⟩
  refine (block_joined V c t h.1 h.2.1 (y 2) (y 3)).trans ?_
  exact congr (congrArg _ (Fin.ext h.2.2.1.symm)) (Fin.ext h.2.2.2.symm)

end Cert.Hyper

end
-- ==== Proof.Resize.lean ====
/- The reference's resize of one level, written once for all four: the source positions, the two neighbours and the
   weight at each of them, the gather of a neighbour, and the resized level at an index. -/
module

public import proofs.«01_k».proof.Proof.Weights
public import proofs.«01_k».proof.Proof.Gen.ReferenceIdeal
public import Idealize.ShloMosaic.Lib.Pointwise
public import Idealize.ShloMosaic.Lib.ValueIdxCore
public import Idealize.ShloMosaic.Lib.WordCmp
public import Idealize.ShloMosaic.Lib.Tactic.WordOmega

@[expose] public section

noncomputable section

namespace Cert.Hyper

open Cert.ReferenceIdeal Cert.ReferenceIdeal.Gen Idealize.ShloMosaic

/-! ## The definitions -/

/-- The source positions of the 64 outputs along one axis, at a level whose scale is the constant of bits `sc`. -/
def srcPos (sc : BitVec 32) : FVec Ideal S64 .f32 :=
  maximumf (subf (mulf (addf (sitofp .f32 (iotaInDim S64 32 0)) (broadcastInDim S64 ![] bcast_S_S64 (constant S_ .f32 0x3F000000#32))) (broadcastInDim S64 ![] bcast_S_S64 (constant S_ .f32 sc))) (broadcastInDim S64 ![] bcast_S_S64 (constant S_ .f32 0x3F000000#32))) (broadcastInDim S64 ![] bcast_S_S64 (constant S_ .f32 0x00000000#32))

/-- The weights of the later neighbours. -/
def srcFrac (sc : BitVec 32) : FVec Ideal S64 .f32 := subf (srcPos sc) (Host.floor (srcPos sc))

/-- An index held between 0 and the last one, the word `l`. -/
def held (l : BitVec 32) (v : IVec S64 32) : IVec S64 32 :=
  minsi (broadcastInDim S64 ![] bcast_S_S64 (id (constantI S_ 32 l))) (maxsi (broadcastInDim S64 ![] bcast_S_S64 (id (constantI S_ 32 0#32))) v)

/-- The earlier neighbours. -/
def srcLo (sc l : BitVec 32) : IVec S64 32 := held l (fptosi 32 (Host.floor (srcPos sc)))

/-- The later neighbours. -/
def srcHi (sc l : BitVec 32) : IVec S64 32 :=
  held l (addi (srcLo sc l) (broadcastInDim S64 ![] bcast_S_S64 (constantI S_ 32 1#32)))

/-- A pair of index vectors, one per axis, laid out as the starts of a gather; a negative index would count from the
    end, the word `nw`. -/
def starts (nw : BitVec 32) (y x : IVec S64 32) : IVec S64x64x2 32 :=
  concatenate S64x64x2 2 [⟨S64x64x1, (broadcastInDim S64x64x1 ![0, 1] bcast_S64x64_S64x64x1_0_1 (broadcastInDim S64x64 ![0, 1] bcast_S64x1_S64x64_0_1 (select (cmpi .slt (broadcastInDim S64x1 ![0] bcast_S64_S64x1_0 y) (broadcastInDim S64x1 ![] bcast_S_S64x1 (constantI S_ 32 0#32))) (addi (broadcastInDim S64x1 ![0] bcast_S64_S64x1_0 y) (broadcastInDim S64x1 ![] bcast_S_S64x1 (constantI S_ 32 nw))) (broadcastInDim S64x1 ![0] bcast_S64_S64x1_0 y))))⟩, ⟨S64x64x1, (broadcastInDim S64x64x1 ![0, 1] bcast_S64x64_S64x64x1_0_1 (broadcastInDim S64x64 ![0, 1] bcast_S1x64_S64x64_0_1 (select (cmpi .slt (broadcastInDim S1x64 ![1] bcast_S64_S1x64_1 x) (broadcastInDim S1x64 ![] bcast_S_S1x64 (constantI S_ 32 0#32))) (addi (broadcastInDim S1x64 ![1] bcast_S64_S1x64_1 x) (broadcastInDim S1x64 ![] bcast_S_S1x64 (constantI S_ 32 nw))) (broadcastInDim S1x64 ![1] bcast_S64_S1x64_1 x))))⟩] concatenates_S64x64x1_S64x64x1_S64x64x2_d2

/-- A level of `C` channels and `n × n` samples. -/
abbrev lvl (C n : ℕ) : Shape := ⟨4, ![4, C, n, n]⟩

/-- The conditions of the gather that reads one sample of every channel. -/
abbrev SampleWF (C n : ℕ) : Prop := GatherDims.WF (lvl C n) S64x64x2 (lvl C 64) [0, 1] [2, 3] [] [2, 3] [] 2 ![4, C, 1, 1]

/-- That gather's dimension numbers. -/
def sampleDims (C n : ℕ) (wf : SampleWF C n) : GatherDims (lvl C n) S64x64x2 (lvl C 64) where
  offsetDims := [0, 1]
  collapsedSliceDims := [2, 3]
  operandBatchingDims := []
  startIndicesBatchingDims := []
  startIndexMap := [2, 3]
  indexVectorDim := 2
  sliceSizes := ![4, C, 1, 1]
  wf := wf

/-- A level resized: the four neighbours gathered, weighted along the rows, then along the columns. -/
def resize (C n : ℕ) (sc l nw : BitVec 32) (wf : SampleWF C n)
    (hx : S1x1x1x64.BroadcastsInDim (lvl C 64) (![0, 1, 2, 3] : Fin 4 → Fin 4))
    (hy : S1x1x64x1.BroadcastsInDim (lvl C 64) (![0, 1, 2, 3] : Fin 4 → Fin 4)) (f : FVec Ideal (lvl C n) .f32) :
    FVec Ideal (lvl C 64) .f32 :=
  let wx0 : FVec Ideal (lvl C 64) .f32 := broadcastInDim (lvl C 64) ![0, 1, 2, 3] hx (broadcastInDim S1x1x1x64 ![2, 3] bcast_S1x64_S1x1x1x64_2_3 (subf (broadcastInDim S1x64 ![] bcast_S_S1x64 (constant S_ .f32 0x3F800000#32)) (broadcastInDim S1x64 ![1] bcast_S64_S1x64_1 (srcFrac sc))))
  let wx1 : FVec Ideal (lvl C 64) .f32 := broadcastInDim (lvl C 64) ![0, 1, 2, 3] hx (broadcastInDim S1x1x1x64 ![2, 3] bcast_S1x64_S1x1x1x64_2_3 (broadcastInDim S1x64 ![1] bcast_S64_S1x64_1 (srcFrac sc)))
  let wy0 : FVec Ideal (lvl C 64) .f32 := broadcastInDim (lvl C 64) ![0, 1, 2, 3] hy (broadcastInDim S1x1x64x1 ![2, 3] bcast_S64x1_S1x1x64x1_2_3 (subf (broadcastInDim S64x1 ![] bcast_S_S64x1 (constant S_ .f32 0x3F800000#32)) (broadcastInDim S64x1 ![0] bcast_S64_S64x1_0 (srcFrac sc))))
  let wy1 : FVec Ideal (lvl C 64) .f32 := broadcastInDim (lvl C 64) ![0, 1, 2, 3] hy (broadcastInDim S1x1x64x1 ![2, 3] bcast_S64x1_S1x1x64x1_2_3 (broadcastInDim S64x1 ![0] bcast_S64_S64x1_0 (srcFrac sc)))
  let g (y x : IVec S64 32) : FVec Ideal (lvl C 64) .f32 := Host.gather (sampleDims C n wf) f (starts nw y x)
  addf (mulf (addf (mulf (g (srcLo sc l) (srcLo sc l)) wx0) (mulf (g (srcLo sc l) (srcHi sc l)) wx1)) wy0)
    (mulf (addf (mulf (g (srcHi sc l) (srcLo sc l)) wx0) (mulf (g (srcHi sc l) (srcHi sc l)) wx1)) wy1)

/-! ## Positions, neighbours and weights at an index -/

/-- The constant one half. -/
theorem ofBits_half : Ideal.ofBits .f32 0x3F000000#32 = (((1 : ℝ) / 2 : ℝ) : EReal) := by
  simp [Ideal.ofBits, Ideal.ieee, -EReal.coe_mul]; norm_num

/-- Half an eighth-count over four: the host's steps from an output to its source position, as reals. -/
theorem pos_real (q k : ℕ) (hq : 0 < q) :
    max ((((k : ℝ) + 1 / 2) * ((q : ℝ) / 4)) - 1 / 2) 0 = (pos q k : ℝ) / 8 := by
  unfold pos
  rcases le_total 4 ((2 * k + 1) * q) with h | h
  · rw [Nat.cast_sub h, max_eq_left]
    · push_cast; ring
    · have : (4 : ℝ) ≤ (2 * k + 1) * q := by exact_mod_cast h
      nlinarith
  · rw [Nat.sub_eq_zero_of_le h, max_eq_right]
    · simp
    · have : ((2 * k + 1) * q : ℝ) ≤ 4 := by exact_mod_cast h
      nlinarith

/-- A source position is that many eighths. -/
theorem srcPos_at (sc : BitVec 32) (q : ℕ) (hq : 0 < q) (hsc : Ideal.ofBits .f32 sc = ((((q : ℝ) / 4) : ℝ) : EReal)) (k : Fin 64) :
    srcPos sc (ix1 k) = ((((pos q k : ℝ)) / 8 : ℝ) : EReal) := by
  pointwise [srcPos]
  have h1 : (FloatOps.sitofp (F := Ideal) FTy.f32 (BitVec.ofNat 32 k) : EReal) = (((k : ℕ) : ℝ) : EReal) := by
    show ((((BitVec.ofNat 32 k).toInt : ℤ) : ℝ) : EReal) = _
    rw [BitVec.toInt_eq_toNat_of_lt (by rw [BitVec.toNat_ofNat]; omega), BitVec.toNat_ofNat, Nat.mod_eq_of_lt (by omega)]
    rfl
  rw [h1, hsc, ofBits_half, ← pos_real q k hq]
  norm_cast

/-- The whole part of a number of eighths. -/
theorem floor_eighth (u : ℕ) : Int.floor ((u : ℝ) / 8) = ((u / 8 : ℕ) : ℤ) := by
  have h : (u : ℝ) = 8 * ((u / 8 : ℕ) : ℝ) + ((u % 8 : ℕ) : ℝ) := by exact_mod_cast (Nat.div_add_mod u 8).symm
  have hr : ((u % 8 : ℕ) : ℝ) < 8 := by exact_mod_cast Nat.mod_lt u (by decide)
  have hr' : (0 : ℝ) ≤ ((u % 8 : ℕ) : ℝ) := by positivity
  rw [Int.floor_eq_iff, Int.cast_natCast]
  constructor <;> linarith

/-- The weight of the later neighbour is the position's remainder, in eighths. -/
theorem srcFrac_at (sc : BitVec 32) (q : ℕ) (hq : 0 < q) (hsc : Ideal.ofBits .f32 sc = ((((q : ℝ) / 4) : ℝ) : EReal)) (k : Fin 64) :
    srcFrac sc (ix1 k) = e8 (fr q k) := by
  pointwise [srcFrac]
  rw [srcPos_at sc q hq hsc k]
  show ((((pos q k : ℝ)) / 8 : ℝ) : EReal) - (((Int.floor ((pos q k : ℝ) / 8) : ℤ) : ℝ) : EReal) = _
  rw [floor_eighth, ← EReal.coe_sub]
  unfold e8 fr
  congr 1
  have h2 : (pos q k : ℝ) = 8 * ((pos q k / 8 : ℕ) : ℝ) + ((pos q k % 8 : ℕ) : ℝ) := by
    exact_mod_cast (Nat.div_add_mod (pos q k) 8).symm
  rw [Int.cast_natCast]
  linarith

/-- The whole part of a source position, as a word. -/
theorem srcWhole_at (sc : BitVec 32) (q : ℕ) (hq : 0 < q) (hq8 : q ≤ 8) (hsc : Ideal.ofBits .f32 sc = ((((q : ℝ) / 4) : ℝ) : EReal)) (k : Fin 64) :
    FloatOps.fptosi (F := Ideal) (φ := .f32) 32 (Ideal.liftRound Int.floor (srcPos sc (ix1 k))) = BitVec.ofNat 32 (pos q k / 8) := by
  rw [srcPos_at sc q hq hsc k]
  show BitVec.ofInt 32 (Ideal.toIntClamped (-(2 ^ (32 - 1) : Nat)) ((2 ^ (32 - 1) : Nat) - 1) (((Int.floor ((pos q k : ℝ) / 8) : ℤ) : ℝ) : EReal)) = _
  rw [floor_eighth]
  show BitVec.ofInt 32 (max _ (min _ (if (0:ℝ) ≤ (((pos q k / 8 : ℕ) : ℤ) : ℝ) then ⌊(((pos q k / 8 : ℕ) : ℤ) : ℝ)⌋ else _))) = _
  rw [if_pos (by positivity), Int.floor_intCast]
  have hb : pos q k / 8 < 2 ^ 20 := by
    have : (2 * (k : ℕ) + 1) * q ≤ 127 * 8 := Nat.mul_le_mul (by omega) hq8
    unfold pos; omega
  rw [min_eq_right (by push_cast; omega), max_eq_right (by push_cast; omega)]
  rfl

/-- An index between 0 and `n - 1` is held where it is, and one past the end at the end. -/
theorem held_at (n v : ℕ) (hn : 0 < n) (hn' : n ≤ 128) (hv : v < 1024) :
    IntOp.minsi (BitVec.ofNat 32 (n - 1)) (IntOp.maxsi 0#32 (BitVec.ofNat 32 v)) = BitVec.ofNat 32 (min v (n - 1)) := by
  have e (u : ℕ) (hu : u < 1024) : (BitVec.ofNat 32 u).toInt = (u : ℤ) := by
    rw [BitVec.toInt_eq_toNat_of_lt (by rw [BitVec.toNat_ofNat]; omega), BitVec.toNat_ofNat, Nat.mod_eq_of_lt (by omega)]
  have h0 : (0#32).toInt = 0 := rfl
  have h1 : IntOp.maxsi 0#32 (BitVec.ofNat 32 v) = BitVec.ofNat 32 v := by
    unfold IntOp.maxsi
    simp only [BitVec.slt, BitVec.sle, h0, e v hv]
    split
    · next h => simp at h; omega
    · rfl
  rw [h1]
  unfold IntOp.minsi
  simp only [BitVec.slt, BitVec.sle, e v hv, e (n - 1) (by omega), decide_eq_true_eq]
  split
  · congr 1; omega
  · congr 1; omega

/-- The earlier neighbour, as a word. -/
theorem srcLo_at (sc : BitVec 32) (n q : ℕ) (hn : 0 < n) (hn' : n ≤ 128) (hq : 0 < q) (hq8 : q ≤ 8)
    (hsc : Ideal.ofBits .f32 sc = ((((q : ℝ) / 4) : ℝ) : EReal)) (k : Fin 64) :
    srcLo sc (BitVec.ofNat 32 (n - 1)) (ix1 k) = BitVec.ofNat 32 (lo n q k) := by
  pointwise [srcLo, held]
  rw [srcWhole_at sc q hq hq8 hsc k]
  refine held_at n _ hn hn' ?_
  have : (2 * (k : ℕ) + 1) * q ≤ 127 * 8 := Nat.mul_le_mul (by omega) hq8
  unfold pos; omega

/-- The later neighbour, as a word. -/
theorem srcHi_at (sc : BitVec 32) (n q : ℕ) (hn : 0 < n) (hn' : n ≤ 128) (hq : 0 < q) (hq8 : q ≤ 8)
    (hsc : Ideal.ofBits .f32 sc = ((((q : ℝ) / 4) : ℝ) : EReal)) (k : Fin 64) :
    srcHi sc (BitVec.ofNat 32 (n - 1)) (ix1 k) = BitVec.ofNat 32 (hi n q k) := by
  pointwise [srcHi, held]
  rw [srcLo_at sc n q hn hn' hq hq8 hsc k]
  have h : IntOp.addi (BitVec.ofNat 32 (lo n q k)) 1#32 = BitVec.ofNat 32 (lo n q k + 1) := by
    show BitVec.ofNat 32 (lo n q k) + 1#32 = _
    rw [BitVec.ofNat_add]
  refine (congrArg _ (congrArg _ h)).trans ?_
  refine held_at n _ hn hn' ?_
  unfold lo; omega

/-- A start that is not negative is passed on. -/
theorem start_word (v nw : BitVec 32) (u : ℕ) (hu : u < 1024) (hv : v = BitVec.ofNat 32 u) :
    Scalar.select (IntOp.cmpi CmpIPredicate.slt v 0#32) (IntOp.addi v nw) v = BitVec.ofNat 32 u := by
  subst hv
  word_omega

/-- The starts' first component is the row index. -/
theorem starts_at0 (nw : BitVec 32) (v w : IVec S64 32) (y x : Fin 64) (u : ℕ) (hu : u < 1024) (hv : v (ix1 y) = BitVec.ofNat 32 u) :
    starts nw v w (ix3 y x 0) = BitVec.ofNat 32 u := by
  pointwise [starts]
  exact start_word _ _ _ hu hv

/-- The starts' second component is the column index. -/
theorem starts_at1 (nw : BitVec 32) (v w : IVec S64 32) (y x : Fin 64) (u : ℕ) (hu : u < 1024) (hv : w (ix1 x) = BitVec.ofNat 32 u) :
    starts nw v w (ix3 y x 1) = BitVec.ofNat 32 u := by
  pointwise [starts]
  exact start_word _ _ _ hu hv

/-- The gather at an index: the sample the starts name, each held to the level. -/
theorem gather_at (C n : ℕ) (hn : 0 < n) (wf : SampleWF C n) (f : FVec Ideal (lvl C n) .f32) (idx : IVec S64x64x2 32)
    (b : Fin 4) (c : Fin C) (y x : Fin 64) :
    Host.gather (sampleDims C n wf) f idx (ix4 b c y x)
      = f (ix4 b c ⟨min (idx (ix3 y x 0)).toInt.toNat (n - 1), by omega⟩ ⟨min (idx (ix3 y x 1)).toInt.toNat (n - 1), by omega⟩) := by
  unfold Host.gather
  congr 1
  funext a
  refine Fin.ext ?_
  show (sampleDims C n wf).start _ idx a + (sampleDims C n wf).batchCoord _ a + (sampleDims C n wf).offCoord _ a = _
  rw [GatherDims.batchCoord_eq_zero _ _ _ List.not_mem_nil, Nat.add_zero]
  have hs (k : Fin 2) : (sampleDims C n wf).siIdx (ix4 b c y x) k = ix3 y x k := by
    funext e; refine Fin.ext ?_
    match e with
    | ⟨0, _⟩ => rfl
    | ⟨1, _⟩ => rfl
    | ⟨2, _⟩ => rfl
  have hk : (sampleDims C n wf).sKept = ([0, 1] : List (Fin 4)) := rfl
  have ho (a : Fin 4) (h : a ∉ ([0, 1] : List (Fin 4))) : (sampleDims C n wf).offCoord (ix4 b c y x) a = 0 :=
    GatherDims.offCoord_eq_zero _ _ _ (by rw [hk]; exact h)
  have hz (a : Fin 4) (h : a ∉ ([2, 3] : List (Fin 4))) : (sampleDims C n wf).start (ix4 b c y x) idx a = 0 := by
    unfold GatherDims.start; exact dif_neg h
  have hc : ∀ a : Fin 4, a = 0 ∨ a = 1 ∨ a = 2 ∨ a = 3 := by decide
  rcases hc a with rfl | rfl | rfl | rfl
  · rw [hz _ (by decide : (0 : Fin 4) ∉ [2, 3])]; exact Nat.zero_add _
  · rw [hz _ (by decide : (1 : Fin 4) ∉ [2, 3])]; exact Nat.zero_add _
  · rw [ho _ (by decide : (2 : Fin 4) ∉ [0, 1])]
    unfold GatherDims.start
    rw [dif_pos (show (2 : Fin 4) ∈ (sampleDims C n wf).startIndexMap from (by decide : (2 : Fin 4) ∈ [2, 3]))]
    exact congrArg (fun i => min (idx i).toInt.toNat (n - 1)) (hs 0)
  · rw [ho _ (by decide : (3 : Fin 4) ∉ [0, 1])]
    unfold GatherDims.start
    rw [dif_pos (show (3 : Fin 4) ∈ (sampleDims C n wf).startIndexMap from (by decide : (3 : Fin 4) ∈ [2, 3]))]
    exact congrArg (fun i => min (idx i).toInt.toNat (n - 1)) (hs 1)

/-- A level as a function of natural coordinates, one sample plane of it: nought outside. -/
def plane (C n : ℕ) (f : FVec Ideal (lvl C n) .f32) (b : Fin 4) (c : Fin C) (y x : ℕ) : EReal :=
  if h : y < n ∧ x < n then f (ix4 b c ⟨y, h.1⟩ ⟨x, h.2⟩) else 0

/-- One gathered neighbour. -/
theorem sample_at (C n : ℕ) (nw : BitVec 32) (hn : 0 < n) (hn' : n ≤ 128) (wf : SampleWF C n) (f : FVec Ideal (lvl C n) .f32)
    (v w : IVec S64 32) (b : Fin 4) (c : Fin C) (y x : Fin 64) (s t : ℕ) (hs : s < n) (ht : t < n)
    (hv : v (ix1 y) = BitVec.ofNat 32 s) (hw : w (ix1 x) = BitVec.ofNat 32 t) :
    Host.gather (sampleDims C n wf) f (starts nw v w) (ix4 b c y x) = plane C n f b c s t := by
  have e (u : ℕ) (hu : u < n) : min (BitVec.ofNat 32 u).toInt.toNat (n - 1) = u := by
    rw [BitVec.toInt_eq_toNat_of_lt (by rw [BitVec.toNat_ofNat]; omega), BitVec.toNat_ofNat]
    omega
  rw [gather_at C n hn wf]
  unfold plane
  rw [dif_pos ⟨hs, ht⟩]
  simp only [starts_at0 nw v w y x s (by omega) hv, starts_at1 nw v w y x t (by omega) hw, e s hs, e t ht]

/-- What is left of one is the rest of the eighths. -/
theorem one_sub_e8 (u : ℕ) (hu : u ≤ 8) : 1 - e8 u = e8 (8 - u) := by
  unfold e8
  rw [show (1 : EReal) = ((1 : ℝ) : EReal) by norm_cast, ← EReal.coe_sub, Nat.cast_sub hu]
  congr 1
  push_cast
  ring

/-- THE RESIZED LEVEL AT AN INDEX: the rule over the rows of the rule over the columns. -/
theorem resize_at (C n q : ℕ) (sc nw : BitVec 32) (hn : 0 < n) (hn' : n ≤ 128) (hq : 0 < q) (hq8 : q ≤ 8)
    (hsc : Ideal.ofBits .f32 sc = ((((q : ℝ) / 4) : ℝ) : EReal)) (wf : SampleWF C n)
    (hx : S1x1x1x64.BroadcastsInDim (lvl C 64) (![0, 1, 2, 3] : Fin 4 → Fin 4))
    (hy : S1x1x64x1.BroadcastsInDim (lvl C 64) (![0, 1, 2, 3] : Fin 4 → Fin 4)) (f : FVec Ideal (lvl C n) .f32)
    (b : Fin 4) (c : Fin C) (y x : Fin 64) :
    resize C n sc (BitVec.ofNat 32 (n - 1)) nw wf hx hy f (ix4 b c y x)
      = lerp n q y (fun s => lerp n q x (fun t => plane C n f b c s t)) := by
  have hl (k : Fin 64) := srcLo_at sc n q hn hn' hq hq8 hsc k
  have hh (k : Fin 64) := srcHi_at sc n q hn hn' hq hq8 hsc k
  have hf (k : Fin 64) := srcFrac_at sc q hq hsc k
  have bl (k : ℕ) : lo n q k < n := by unfold lo; omega
  have bh (k : ℕ) : hi n q k < n := by unfold hi; omega
  pointwise [resize]
  rw [sample_at C n nw hn hn' wf f _ _ b c y x _ _ (bl y) (bl x) (hl y) (hl x),
    sample_at C n nw hn hn' wf f _ _ b c y x _ _ (bl y) (bh x) (hl y) (hh x),
    sample_at C n nw hn hn' wf f _ _ b c y x _ _ (bh y) (bl x) (hh y) (hl x),
    sample_at C n nw hn hn' wf f _ _ b c y x _ _ (bh y) (bh x) (hh y) (hh x), hf x, hf y,
    one_sub_e8 _ (by unfold fr; omega), one_sub_e8 _ (by unfold fr; omega)]
  rfl

end Cert.Hyper

end
-- ==== Proof.RefValue.lean ====
/- What the reference computes: its result at an index, level by level. -/
module

public import proofs.«01_k».proof.Proof.Resize
public import proofs.«01_k».proof.Proof.Gen.ReferenceIdeal.Run

@[expose] public section

set_option maxRecDepth 16384

noncomputable section

namespace Cert.Hyper

open Cert.ReferenceIdeal Cert.ReferenceIdeal.Gen Cert.ReferenceIdeal.Value Idealize.ShloMosaic Idealize.ShloMosaic.StableHlo

/-- The scale two. -/
theorem ofBits_two : Ideal.ofBits .f32 0x40000000#32 = ((((8 : ℕ) : ℝ) / 4 : ℝ) : EReal) := by
  simp [Ideal.ofBits, Ideal.ieee, -EReal.coe_mul]; norm_num

/-- The scale one. -/
theorem ofBits_one' : Ideal.ofBits .f32 0x3F800000#32 = ((((4 : ℕ) : ℝ) / 4 : ℝ) : EReal) := by
  simp [Ideal.ofBits, Ideal.ieee, -EReal.coe_mul]; norm_num

/-- The scale one half. -/
theorem ofBits_half' : Ideal.ofBits .f32 0x3F000000#32 = ((((2 : ℕ) : ℝ) / 4 : ℝ) : EReal) := by
  simp [Ideal.ofBits, Ideal.ieee, -EReal.coe_mul]; norm_num

/-- The scale one quarter. -/
theorem ofBits_quarter' : Ideal.ofBits .f32 0x3E800000#32 = ((((1 : ℕ) : ℝ) / 4 : ℝ) : EReal) := by
  simp [Ideal.ofBits, Ideal.ieee, -EReal.coe_mul]; norm_num

/-- The reference's first level is the resize of its argument. -/
theorem level0_eq (V0 : Valuation τ sig (Elt Ideal)) :
    res_main_v128 V0 = resize 96 128 0x40000000#32 127#32 128#32 gather_S4x96x128x128_S64x64x2_S4x96x64x64_01_23_n_n_23_2_49611_wf
      bcast_S1x1x1x64_S4x96x64x64_0_1_2_3 bcast_S1x1x64x1_S4x96x64x64_0_1_2_3 (V0 (Proc.devRef .tc main_arg0)) := rfl

/-- The second level. -/
theorem level1_eq (V0 : Valuation τ sig (Elt Ideal)) :
    res_main_v257 V0 = resize 192 64 0x3F800000#32 63#32 64#32 gather_S4x192x64x64_S64x64x2_S4x192x64x64_01_23_n_n_23_2_419211_wf
      bcast_S1x1x1x64_S4x192x64x64_0_1_2_3 bcast_S1x1x64x1_S4x192x64x64_0_1_2_3 (V0 (Proc.devRef .tc main_arg1)) := rfl

/-- The third level. -/
theorem level2_eq (V0 : Valuation τ sig (Elt Ideal)) :
    res_main_v386 V0 = resize 384 32 0x3F000000#32 31#32 32#32 gather_S4x384x32x32_S64x64x2_S4x384x64x64_01_23_n_n_23_2_438411_wf
      bcast_S1x1x1x64_S4x384x64x64_0_1_2_3 bcast_S1x1x64x1_S4x384x64x64_0_1_2_3 (V0 (Proc.devRef .tc main_arg2)) := rfl

/-- The fourth level. -/
theorem level3_eq (V0 : Valuation τ sig (Elt Ideal)) :
    res_main_v515 V0 = resize 768 16 0x3E800000#32 15#32 16#32 gather_S4x768x16x16_S64x64x2_S4x768x64x64_01_23_n_n_23_2_476811_wf
      bcast_S1x1x1x64_S4x768x64x64_0_1_2_3 bcast_S1x1x64x1_S4x768x64x64_0_1_2_3 (V0 (Proc.devRef .tc main_arg3)) := rfl

/-- The reference's result, its four levels joined along the channels. -/
def refOut (V0 : Valuation τ sig (Elt Ideal)) : FVec Ideal S4x1440x64x64 .f32 :=
  concatenate S4x1440x64x64 1 [⟨S4x96x64x64, (res_main_v128 V0 : (⟨S4x96x64x64, .f32⟩ : BufTy).Contents (Elt Ideal))⟩, ⟨S4x192x64x64, (res_main_v257 V0 : (⟨S4x192x64x64, .f32⟩ : BufTy).Contents (Elt Ideal))⟩, ⟨S4x384x64x64, (res_main_v386 V0 : (⟨S4x384x64x64, .f32⟩ : BufTy).Contents (Elt Ideal))⟩, ⟨S4x768x64x64, (res_main_v515 V0 : (⟨S4x768x64x64, .f32⟩ : BufTy).Contents (Elt Ideal))⟩] concatenates_S4x96x64x64_S4x192x64x64_S4x384x64x64_S4x768x64x64_S4x1440x64x64_d1

/-- THE RESULT AT AN INDEX, as a function of the four arguments: the channel's level, interpolated along both axes. -/
def want (f0 : FVec Ideal S4x96x128x128 .f32) (f1 : FVec Ideal S4x192x64x64 .f32) (f2 : FVec Ideal S4x384x32x32 .f32)
    (f3 : FVec Ideal S4x768x16x16 .f32) (b : Fin 4) (c : Fin 1440) (y x : Fin 64) : EReal :=
  if h0 : (c : ℕ) < 96 then lerp 128 8 y fun s => lerp 128 8 x fun t => plane 96 128 f0 b ⟨c, h0⟩ s t
  else if h1 : (c : ℕ) < 288 then lerp 64 4 y fun s => lerp 64 4 x fun t => plane 192 64 f1 b ⟨c - 96, by omega⟩ s t
  else if h2 : (c : ℕ) < 672 then lerp 32 2 y fun s => lerp 32 2 x fun t => plane 384 32 f2 b ⟨c - 288, by omega⟩ s t
  else lerp 16 1 y fun s => lerp 16 1 x fun t => plane 768 16 f3 b ⟨c - 672, by omega⟩ s t

/-- The reference's result at an index. -/
theorem refOut_at (V0 : Valuation τ sig (Elt Ideal)) (b : Fin 4) (c : Fin 1440) (y x : Fin 64) :
    refOut V0 (ix4 b c y x) = want (V0 (Proc.devRef .tc main_arg0)) (V0 (Proc.devRef .tc main_arg1)) (V0 (Proc.devRef .tc main_arg2))
      (V0 (Proc.devRef .tc main_arg3)) b c y x := by
  unfold refOut
  rw [level0_eq, level1_eq, level2_eq, level3_eq]
  pointwise []
  unfold want
  by_cases h0 : (c : ℕ) < 96
  · rw [dif_pos h0, dif_pos h0]
    exact resize_at 96 128 8 0x40000000#32 128#32 (by decide) (by decide) (by decide) (by decide) ofBits_two _ _ _ _ b ⟨c, h0⟩ y x
  rw [dif_neg h0, dif_neg h0]
  by_cases h1 : (c : ℕ) < 288
  · rw [dif_pos h1, dif_pos (show (c : ℕ) - 96 < 192 by omega)]
    exact resize_at 192 64 4 0x3F800000#32 64#32 (by decide) (by decide) (by decide) (by decide) ofBits_one' _ _ _ _ b ⟨c - 96, by omega⟩ y x
  rw [dif_neg h1, dif_neg (show ¬ (c : ℕ) - 96 < 192 by omega)]
  have e2 : (c : ℕ) - 96 - 192 = c - 288 := by omega
  have e3 : (c : ℕ) - 96 - 192 - 384 = c - 672 := by omega
  by_cases h2 : (c : ℕ) < 672
  · rw [dif_pos h2, dif_pos (show (c : ℕ) - 96 - 192 < 384 by omega)]
    simp only [e2]
    exact resize_at 384 32 2 0x3F000000#32 32#32 (by decide) (by decide) (by decide) (by decide) ofBits_half' _ _ _ _ b ⟨c - 288, by omega⟩ y x
  rw [dif_neg h2, dif_neg (show ¬ (c : ℕ) - 96 - 192 < 384 by omega)]
  simp only [e3]
  exact resize_at 768 16 1 0x3E800000#32 16#32 (by decide) (by decide) (by decide) (by decide) ofBits_quarter' _ _ _ _ b ⟨c - 672, by omega⟩ y x

end Cert.Hyper

end
-- ==== Proof.KernelValue.lean ====
/- What the idealised kernel's result holds at an index: the value that the reference's is known to be. -/
module

public import proofs.«01_k».proof.Proof.Grid0
public import proofs.«01_k».proof.Proof.Grid1
public import proofs.«01_k».proof.Proof.RefValue

@[expose] public section

set_option maxRecDepth 16384

noncomputable section

namespace Cert.Hyper

open Cert.KernelIdeal Cert.KernelIdeal.Gen Idealize.ShloMosaic Idealize.ShloMosaic.StableHlo

/-! ## The arrays against the wanted values -/

/-- The halved level is the reference's interpolation at the points half way between its samples. -/
theorem pooled_eq (f : Vec Ideal S4x96x128x128 .f32) (b : Fin 4) (c : Fin 96) (y x : Fin 64) :
    pooled f b c y x = lerp 128 8 y fun s => lerp 128 8 x fun t => plane 96 128 f b c s t := by
  rw [pool_eq y x y.isLt x.isLt]
  unfold pooled mean4 plane
  rw [dif_pos ⟨by omega, by omega⟩, dif_pos ⟨by omega, by omega⟩, dif_pos ⟨by omega, by omega⟩, dif_pos ⟨by omega, by omega⟩]

/-- The joined array is wanted, when its four parts hold the levels with channels last. -/
theorem joined_eq {p0 : Vec Ideal S4x64x64x96 .f32} {p1 : Vec Ideal S4x64x64x192 .f32} {p2 : Vec Ideal S4x32x32x384 .f32} {p3 : Vec Ideal S4x16x16x768 .f32}
    {f0 : Vec Ideal S4x96x128x128 .f32} {f1 : Vec Ideal S4x192x64x64 .f32} {f2 : Vec Ideal S4x384x32x32 .f32} {f3 : Vec Ideal S4x768x16x16 .f32}
    (h0 : ∀ b y x c, p0 (ix4 b y x c) = pooled f0 b c y x) (h1 : ∀ b y x c, p1 (ix4 b y x c) = f1 (ix4 b c y x))
    (h2 : ∀ b y x c, p2 (ix4 b y x c) = f2 (ix4 b c y x)) (h3 : ∀ b y x c, p3 (ix4 b y x c) = f3 (ix4 b c y x))
    (b : Fin 4) (y x : Fin 64) (c : Fin 1440) : joined p0 p1 p2 p3 b y x c = want f0 f1 f2 f3 b c y x := by
  have g2 : ∀ (b : Fin 4) (c : Fin 384) (R k : ℕ), grid (n := 32) (C := 384) p2 b c R k = plane 384 32 f2 b c R k := fun b c R k => by
    unfold grid plane; split
    · exact h2 _ _ _ _
    · rfl
  have g3 : ∀ (b : Fin 4) (c : Fin 768) (R k : ℕ), grid (n := 16) (C := 768) p3 b c R k = plane 768 16 f3 b c R k := fun b c R k => by
    unfold grid plane; split
    · exact h3 _ _ _ _
    · rfl
  unfold joined want
  split
  · exact (h0 _ _ _ _).trans (pooled_eq _ _ _ _ _)
  split
  · rw [h1, lerp_id y y.isLt, lerp_id x x.isLt]
    unfold plane
    rw [dif_pos ⟨y.isLt, x.isLt⟩]
  split
  · simp only [g2]; exact lerp_swap 32 2 x y _
  · simp only [g3]; exact lerp_swap 16 1 x y _

/-! ## The buffers along the run -/

variable (m : (ℓ : Loc nD τ sig) → Buf (Elt Ideal) ℓ) (ρ : Dev nD → PrngReg)

/-- The matrix that the first region reads. -/
theorem cst_eq (c : Dev nD) : V1 m ρ c main_cst = poolMatrix := by
  show StableHlo.after hostOps0 (W0 m ρ c) (Proc.devRef .tc main_cst) = _
  after_results
  rfl

/-- The first region's array. -/
theorem v0_eq (c : Dev nD) : W2 m ρ c (Proc.devRef .tc main_v0) =
    (fun i : S4x96x64x64.Idx => pooled (m ((c.tc : Thread nD τ).loc main_arg0)) (i 0) (i 1) (i 2) (i 3)) := by
  refine (W2_arr m ρ c 2).trans ((arr0 (V1 m ρ) c (cst_eq m ρ c)).trans ?_)
  rw [show V1 m ρ c main_arg0 = m ((c.tc : Thread nD τ).loc main_arg0) from W1_args m ρ c main_arg0 (by decide)]

/-- The halved level with channels last. -/
theorem v1_at (c : Dev nD) (b : Fin 4) (y x : Fin 64) (k : Fin 96) :
    (V3 m ρ c main_v1 : Vec Ideal S4x64x64x96 .f32) (ix4 b y x k) = pooled (m ((c.tc : Thread nD τ).loc main_arg0)) b k y x := by
  have h : V3 m ρ c main_v1 = transpose S4x64x64x96 [0, 2, 3, 1] (W2 m ρ c (Proc.devRef .tc main_v0) : Vec Ideal S4x96x64x64 .f32) transposes_S4x96x64x64_S4x64x64x96_0_2_3_1 := by
    show StableHlo.after hostOps1 (W2 m ρ c) (Proc.devRef .tc main_v1) = _
    after_results
  rw [h, v0_eq]
  pointwise

/-- The second level with channels last. -/
theorem v2_at (c : Dev nD) (b : Fin 4) (y x : Fin 64) (k : Fin 192) :
    (V3 m ρ c main_v2 : Vec Ideal S4x64x64x192 .f32) (ix4 b y x k) = (m ((c.tc : Thread nD τ).loc main_arg1) : Vec Ideal S4x192x64x64 .f32) (ix4 b k y x) := by
  have h : V3 m ρ c main_v2 = transpose S4x64x64x192 [0, 2, 3, 1] (W2 m ρ c (Proc.devRef .tc main_arg1) : Vec Ideal S4x192x64x64 .f32) transposes_S4x192x64x64_S4x64x64x192_0_2_3_1 := by
    show StableHlo.after hostOps1 (W2 m ρ c) (Proc.devRef .tc main_v2) = _
    after_results
  rw [h, W2_args m ρ c main_arg1 (by decide)]
  pointwise

/-- The third level with channels last. -/
theorem v3_at (c : Dev nD) (b : Fin 4) (y x : Fin 32) (k : Fin 384) :
    (V3 m ρ c main_v3 : Vec Ideal S4x32x32x384 .f32) (ix4 b y x k) = (m ((c.tc : Thread nD τ).loc main_arg2) : Vec Ideal S4x384x32x32 .f32) (ix4 b k y x) := by
  have h : V3 m ρ c main_v3 = transpose S4x32x32x384 [0, 2, 3, 1] (W2 m ρ c (Proc.devRef .tc main_arg2) : Vec Ideal S4x384x32x32 .f32) transposes_S4x384x32x32_S4x32x32x384_0_2_3_1 := by
    show StableHlo.after hostOps1 (W2 m ρ c) (Proc.devRef .tc main_v3) = _
    after_results
  rw [h, W2_args m ρ c main_arg2 (by decide)]
  pointwise

/-- The last level with channels last. -/
theorem v4_at (c : Dev nD) (b : Fin 4) (y x : Fin 16) (k : Fin 768) :
    (V3 m ρ c main_v4 : Vec Ideal S4x16x16x768 .f32) (ix4 b y x k) = (m ((c.tc : Thread nD τ).loc main_arg3) : Vec Ideal S4x768x16x16 .f32) (ix4 b k y x) := by
  have h : V3 m ρ c main_v4 = transpose S4x16x16x768 [0, 2, 3, 1] (W2 m ρ c (Proc.devRef .tc main_arg3) : Vec Ideal S4x768x16x16 .f32) transposes_S4x768x16x16_S4x16x16x768_0_2_3_1 := by
    show StableHlo.after hostOps1 (W2 m ρ c) (Proc.devRef .tc main_v4) = _
    after_results
  rw [h, W2_args m ρ c main_arg3 (by decide)]
  pointwise

/-- The result, at an index. -/
theorem v6_at (c : Dev nD) (b : Fin 4) (k : Fin 1440) (y x : Fin 64) :
    (W5 m ρ c (Proc.devRef .tc main_v6) : Vec Ideal S4x1440x64x64 .f32) (ix4 b k y x)
      = want (m ((c.tc : Thread nD τ).loc main_arg0)) (m ((c.tc : Thread nD τ).loc main_arg1)) (m ((c.tc : Thread nD τ).loc main_arg2)) (m ((c.tc : Thread nD τ).loc main_arg3)) b k y x := by
  have h : W5 m ρ c (Proc.devRef .tc main_v6) = transpose S4x1440x64x64 [0, 3, 1, 2] (W4 m ρ c (Proc.devRef .tc main_v5) : Vec Ideal S4x64x64x1440 .f32) transposes_S4x64x64x1440_S4x1440x64x64_0_3_1_2 := by
    show StableHlo.after hostOps2 (W4 m ρ c) (Proc.devRef .tc main_v6) = _
    after_results
  rw [h, show W4 m ρ c (Proc.devRef .tc main_v5) = _ from (W4_arr m ρ c 4).trans (arr1 (V3 m ρ) c)]
  refine Eq.trans ?_ (joined_eq (v1_at m ρ c) (v2_at m ρ c) (v3_at m ρ c) (v4_at m ρ c) b y x k)
  pointwise

end Cert.Hyper

end
-- ==== Proof.lean ====
module

public import proofs.«01_k».proof.Defs
public import proofs.«01_k».proof.Proof.KernelFrame
public import proofs.«01_k».proof.Proof.KernelValue
public import proofs.«01_k».proof.Proof.Gen.ReferenceIdeal
public import Idealize.ShloMosaic.Adequacy
public import Idealize.ShloMosaic.Init
public import Idealize.ShloMosaic.Lib.Claim

@[expose] public section

noncomputable section

namespace Cert.Proof

open Idealize.ShloMosaic Idealize.SL.Sem

/-- The reference's run ends with its arguments unchanged and, as it declares no semaphore, every counter at zero. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- The result that both programs end with, from the four arguments. -/
def wanted (m : (ℓ : Loc Cert.KernelIdeal.nD Cert.KernelIdeal.τ Cert.KernelIdeal.sig) → Buf (Elt Ideal) ℓ) (c : Dev Cert.KernelIdeal.nD) :
    Vec Ideal Cert.KernelIdeal.S4x1440x64x64 .f32 := fun i =>
  Hyper.want (m ((c.tc : Thread _ Cert.KernelIdeal.τ).loc Cert.KernelIdeal.main_arg0)) (m ((c.tc : Thread _ Cert.KernelIdeal.τ).loc Cert.KernelIdeal.main_arg1))
    (m ((c.tc : Thread _ Cert.KernelIdeal.τ).loc Cert.KernelIdeal.main_arg2)) (m ((c.tc : Thread _ Cert.KernelIdeal.τ).loc Cert.KernelIdeal.main_arg3)) (i 0) (i 1) (i 2) (i 3)

/-- The idealised kernel and the reference end with the same result. -/
theorem same : Cert.algebraic_KernelIdeal_ReferenceIdeal := by
  intro m g m' g' _ hagree
  refine ⟨fun c => wanted m c, ?_, ?_⟩
  · refine (θ_run Cert.KernelIdeal.defs _ _).mono (fun r h c => ⟨(h c).1.trans ?_, (h c).2⟩) (Cert.KernelIdeal.Gen.result (F := Ideal) m g)
    funext i
    rw [eq_ix4 i]
    exact Hyper.v6_at m g c _ _ _ _
  · refine (θ_run Cert.ReferenceIdeal.defs _ _).mono (fun r h c => ⟨(h c).1.trans ?_, (h c).2⟩) (Cert.ReferenceIdeal.Value.run (F := Ideal) m' g')
    obtain ⟨h0, h1, h2, h3⟩ := hagree c
    funext i
    rw [eq_ix4 i]
    refine (Hyper.refOut_at (Idealize.ShloMosaic.StableHlo.launchContents m' c) _ _ _ _).trans ?_
    show Hyper.want (m' ((c.tc : Thread _ Cert.ReferenceIdeal.τ).loc Cert.ReferenceIdeal.main_arg0)) (m' ((c.tc : Thread _ Cert.ReferenceIdeal.τ).loc Cert.ReferenceIdeal.main_arg1))
      (m' ((c.tc : Thread _ Cert.ReferenceIdeal.τ).loc Cert.ReferenceIdeal.main_arg2)) (m' ((c.tc : Thread _ Cert.ReferenceIdeal.τ).loc Cert.ReferenceIdeal.main_arg3)) _ _ _ _ = _
    rw [h0, h1, h2, h3]
    rfl

/-- Everything claimed: the three frames, the idealisation, and the equality of the two results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial, same⟩

end Cert.Proof

end
